-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x768 : Shape := ⟨3, ![2, 2048, 768]⟩
abbrev S8x768 : Shape := ⟨2, ![8, 768]⟩
abbrev S8x3072x768 : Shape := ⟨3, ![8, 3072, 768]⟩
abbrev S8x3072 : Shape := ⟨2, ![8, 3072]⟩
abbrev S8x768x3072 : Shape := ⟨3, ![8, 768, 3072]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S8x768 : S_.BroadcastsInDim S8x768 (![] : Fin 0 → Fin S8x768.rank)
  reducesTo_S8x768_S_d0_1 : S8x768.ReducesTo [0, 1] S_

variable [Facts]

def fn {F : FTy → Type} [FloatOps F] (main_arg0 : FVec F S2x2048x768 .f32) (main_arg1 : FVec F S8x768 .f32) (main_arg2 : FVec F S8x3072x768 .f32) (main_arg3 : FVec F S8x3072 .f32) (main_arg4 : FVec F S8x768x3072 .f32) (main_arg5 : FVec F S8x768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  main_v8
-- ==== Kernel.lean ====
abbrev S2x2048x768 : Shape := ⟨3, ![2, 2048, 768]⟩
abbrev S8x768 : Shape := ⟨2, ![8, 768]⟩
abbrev S8x3072x768 : Shape := ⟨3, ![8, 3072, 768]⟩
abbrev S8x3072 : Shape := ⟨2, ![8, 3072]⟩
abbrev S8x768x3072 : Shape := ⟨3, ![8, 768, 3072]⟩
abbrev S4096x768 : Shape := ⟨2, ![4096, 768]⟩
abbrev S4096x8 : Shape := ⟨2, ![4096, 8]⟩
abbrev S2048x768 : Shape := ⟨2, ![2048, 768]⟩
abbrev S2048x8 : Shape := ⟨2, ![2048, 8]⟩
abbrev S2048 : Shape := ⟨1, ![2048]⟩
abbrev S2048x1 : Shape := ⟨2, ![2048, 1]⟩
abbrev S8x1x3072 : Shape := ⟨3, ![8, 1, 3072]⟩
abbrev S8x1x768 : Shape := ⟨3, ![8, 1, 768]⟩
abbrev S1x3072x768 : Shape := ⟨3, ![1, 3072, 768]⟩
abbrev S1x768x3072 : Shape := ⟨3, ![1, 768, 3072]⟩
abbrev S1x1x3072 : Shape := ⟨3, ![1, 1, 3072]⟩
abbrev S1x1x768 : Shape := ⟨3, ![1, 1, 768]⟩
abbrev S512x768 : Shape := ⟨2, ![512, 768]⟩
abbrev S3072x768 : Shape := ⟨2, ![3072, 768]⟩
abbrev S512x3072 : Shape := ⟨2, ![512, 3072]⟩
abbrev S1x3072 : Shape := ⟨2, ![1, 3072]⟩
abbrev S768x3072 : Shape := ⟨2, ![768, 3072]⟩
abbrev S1x768 : Shape := ⟨2, ![1, 768]⟩
abbrev S512x8 : Shape := ⟨2, ![512, 8]⟩
abbrev S512 : Shape := ⟨1, ![512]⟩
abbrev S512x1 : Shape := ⟨2, ![512, 1]⟩

abbrev nBuf : Space → Nat
  | .hbm => 15
  | .vmem => 16
  | .smem => 0
  | _ => 0

abbrev bufTy : (tb : Table) → Fin (tcTables nBuf tb) → BufTy
  | .hbm, ⟨0, _⟩ => ⟨S2x2048x768, .f32⟩
  | .hbm, ⟨1, _⟩ => ⟨S8x768, .f32⟩
  | .hbm, ⟨2, _⟩ => ⟨S8x3072x768, .f32⟩
  | .hbm, ⟨3, _⟩ => ⟨S8x3072, .f32⟩
  | .hbm, ⟨4, _⟩ => ⟨S8x768x3072, .f32⟩
  | .hbm, ⟨5, _⟩ => ⟨S8x768, .f32⟩
  | .hbm, ⟨6, _⟩ => ⟨S4096x768, .f32⟩
  | .hbm, ⟨7, _⟩ => ⟨S4096x768, .bf16⟩
  | .hbm, ⟨8, _⟩ => ⟨S8x3072x768, .bf16⟩
  | .hbm, ⟨9, _⟩ => ⟨S8x768x3072, .bf16⟩
  | .hbm, ⟨10, _⟩ => ⟨S4096x8, .f32⟩
  | .hbm, ⟨11, _⟩ => ⟨S8x1x3072, .f32⟩
  | .hbm, ⟨12, _⟩ => ⟨S8x1x768, .f32⟩
  | .hbm, ⟨13, _⟩ => ⟨S4096x768, .f32⟩
  | .hbm, ⟨14, _⟩ => ⟨S2x2048x768, .f32⟩
  | .local _ .vmem, ⟨0, _⟩ => ⟨S2048x768, .f32⟩
  | .local _ .vmem, ⟨1, _⟩ => ⟨S2048x768, .f32⟩
  | .local _ .vmem, ⟨2, _⟩ => ⟨S8x768, .f32⟩
  | .local _ .vmem, ⟨3, _⟩ => ⟨S2048x8, .f32⟩
  | .local _ .vmem, ⟨4, _⟩ => ⟨S2048x8, .f32⟩
  | .local _ .vmem, ⟨5, _⟩ => ⟨S4096x8, .f32⟩
  | .local _ .vmem, ⟨6, _⟩ => ⟨S4096x768, .bf16⟩
  | .local _ .vmem, ⟨7, _⟩ => ⟨S1x3072x768, .bf16⟩
  | .local _ .vmem, ⟨8, _⟩ => ⟨S1x3072x768, .bf16⟩
  | .local _ .vmem, ⟨9, _⟩ => ⟨S1x768x3072, .bf16⟩
  | .local _ .vmem, ⟨10, _⟩ => ⟨S1x768x3072, .bf16⟩
  | .local _ .vmem, ⟨11, _⟩ => ⟨S1x1x3072, .f32⟩
  | .local _ .vmem, ⟨12, _⟩ => ⟨S1x1x3072, .f32⟩
  | .local _ .vmem, ⟨13, _⟩ => ⟨S1x1x768, .f32⟩
  | .local _ .vmem, ⟨14, _⟩ => ⟨S1x1x768, .f32⟩
  | .local _ .vmem, ⟨15, _⟩ => ⟨S4096x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

@[reducible] def k1_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k1_off1 (k1_t1 : Fin k1_t1_loop.trips) : Fin 2 → Nat :=
  let c0_i32 : BitVec 32 := 0#32
  let c1_i32 : BitVec 32 := 1#32
  let arg8 : BitVec 32 := Scf.iv c0_i32 c1_i32 k1_t1
  let c512_i32 : BitVec 32 := 512#32
  let v1 : BitVec 32 := Scalar.muli arg8 c512_i32
  let v2 : Index := Scalar.indexCast v1
  let c0 : Index := 0#32
  ![v2.toNat, 0]
def k1_off2 (k1_t1 : Fin k1_t1_loop.trips) : Fin 2 → Nat :=
  let c0_i32 : BitVec 32 := 0#32
  let c1_i32 : BitVec 32 := 1#32
  let arg8 : BitVec 32 := Scf.iv c0_i32 c1_i32 k1_t1
  let c512_i32 : BitVec 32 := 512#32
  let v1 : BitVec 32 := Scalar.muli arg8 c512_i32
  let v28 : Index := Scalar.indexCast v1
  let c0_17 : Index := 0#32
  ![v28.toNat, 0]
def k1_cond1 (i : grid1.Coords) : BitVec 1 :=
  let arg0 : BitVec 32 := BitVec.ofNat 32 (i 0).val
  let c0_i32_20 : BitVec 32 := 0#32
  let v40 : BitVec 1 := Scalar.cmpi .eq arg0 c0_i32_20
  let v41 : BitVec 32 := Scalar.extui v40
  let c0_i32_21 : BitVec 32 := 0#32
  let v42 : BitVec 1 := Scalar.cmpi .ne v41 c0_i32_21
  v42

def k1_off3 (k1_t1 : Fin k1_t1_loop.trips) : Fin 2 → Nat :=
  let c0_i32 : BitVec 32 := 0#32
  let c1_i32 : BitVec 32 := 1#32
  let arg8 : BitVec 32 := Scf.iv c0_i32 c1_i32 k1_t1
  let c512_i32 : BitVec 32 := 512#32
  let v1 : BitVec 32 := Scalar.muli arg8 c512_i32
  let v46 : Index := Scalar.indexCast v1
  let c0_24 : Index := 0#32
  ![v46.toNat, 0]
def k1_cond2 (i : grid1.Coords) : BitVec 1 :=
  let arg0 : BitVec 32 := BitVec.ofNat 32 (i 0).val
  let c0_i32_22 : BitVec 32 := 0#32
  let v43 : BitVec 1 := Scalar.cmpi .ne arg0 c0_i32_22
  let v44 : BitVec 32 := Scalar.extui v43
  let c0_i32_23 : BitVec 32 := 0#32
  let v45 : BitVec 1 := Scalar.cmpi .ne v44 c0_i32_23
  v45

def k1_off4 (k1_t1 : Fin k1_t1_loop.trips) : Fin 2 → Nat :=
  let c0_i32 : BitVec 32 := 0#32
  let c1_i32 : BitVec 32 := 1#32
  let arg8 : BitVec 32 := Scf.iv c0_i32 c1_i32 k1_t1
  let c512_i32 : BitVec 32 := 512#32
  let v1 : BitVec 32 := Scalar.muli arg8 c512_i32
  let v46 : Index := Scalar.indexCast v1
  let c0_24 : Index := 0#32
  ![v46.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x3072x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x768x3072 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x3072 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S4096x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S2x2048x768 : Shape := ⟨3, ![2, 2048, 768]⟩
abbrev S8x768 : Shape := ⟨2, ![8, 768]⟩
abbrev S8x3072x768 : Shape := ⟨3, ![8, 3072, 768]⟩
abbrev S8x3072 : Shape := ⟨2, ![8, 3072]⟩
abbrev S8x768x3072 : Shape := ⟨3, ![8, 768, 3072]⟩
abbrev S2x2048x8 : Shape := ⟨3, ![2, 2048, 8]⟩
abbrev S2x2048x2 : Shape := ⟨3, ![2, 2048, 2]⟩
abbrev S_ : Shape := ⟨0, ![]⟩
abbrev S2x2048 : Shape := ⟨2, ![2, 2048]⟩
abbrev S2x2048x1 : Shape := ⟨3, ![2, 2048, 1]⟩
abbrev S4096x768 : Shape := ⟨2, ![4096, 768]⟩
abbrev S8x3072x4096 : Shape := ⟨3, ![8, 3072, 4096]⟩
abbrev S8x4096x3072 : Shape := ⟨3, ![8, 4096, 3072]⟩
abbrev S8x1x3072 : Shape := ⟨3, ![8, 1, 3072]⟩
abbrev S8x4096x768 : Shape := ⟨3, ![8, 4096, 768]⟩
abbrev S8x1x768 : Shape := ⟨3, ![8, 1, 768]⟩
abbrev S4096x2 : Shape := ⟨2, ![4096, 2]⟩
abbrev S2x4096 : Shape := ⟨2, ![2, 4096]⟩
abbrev S4096 : Shape := ⟨1, ![4096]⟩
abbrev S1x4096 : Shape := ⟨2, ![1, 4096]⟩
abbrev S2x4096x1 : Shape := ⟨3, ![2, 4096, 1]⟩
abbrev S2x4096x2 : Shape := ⟨3, ![2, 4096, 2]⟩
abbrev S2x4096x768 : Shape := ⟨3, ![2, 4096, 768]⟩
abbrev S4096x2x768 : Shape := ⟨3, ![4096, 2, 768]⟩
abbrev S4096x2x1 : Shape := ⟨3, ![4096, 2, 1]⟩

abbrev nBuf : Space → Nat
  | .hbm => 72
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S8x768, .f32⟩
  | .hbm, ⟨2, _⟩ => ⟨S8x3072x768, .f32⟩
  | .hbm, ⟨3, _⟩ => ⟨S8x3072, .f32⟩
  | .hbm, ⟨4, _⟩ => ⟨S8x768x3072, .f32⟩
  | .hbm, ⟨5, _⟩ => ⟨S8x768, .f32⟩
  | .hbm, ⟨6, _⟩ => ⟨S2x2048x8, .f32⟩
  | .hbm, ⟨7, _⟩ => ⟨S2x2048x2, .f32⟩
  | .hbm, ⟨8, _⟩ => ⟨S2x2048x2, .i32⟩
  | .hbm, ⟨9, _⟩ => ⟨S_, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048x1, .f32⟩
  | .hbm, ⟨15, _⟩ => ⟨S2x2048x2, .f32⟩
  | .hbm, ⟨16, _⟩ => ⟨S2x2048x2, .f32⟩
  | .hbm, ⟨17, _⟩ => ⟨S2x2048x2, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S2x2048x2, .f32⟩
  | .hbm, ⟨22, _⟩ => ⟨S2x2048x2, .f32⟩
  | .hbm, ⟨23, _⟩ => ⟨S4096x768, .f32⟩
  | .hbm, ⟨24, _⟩ => ⟨S8x3072x4096, .f32⟩
  | .hbm, ⟨25, _⟩ => ⟨S8x4096x3072, .f32⟩
  | .hbm, ⟨26, _⟩ => ⟨S8x1x3072, .f32⟩
  | .hbm, ⟨27, _⟩ => ⟨S8x4096x3072, .f32⟩
  | .hbm, ⟨28, _⟩ => ⟨S8x4096x3072, .f32⟩
  | .hbm, ⟨29, _⟩ => ⟨S_, .f32⟩
  | .hbm, ⟨30, _⟩ => ⟨S8x4096x3072, .f32⟩
  | .hbm, ⟨31, _⟩ => ⟨S8x4096x3072, .f32⟩
  | .hbm, ⟨32, _⟩ => ⟨S8x4096x3072, .f32⟩
  | .hbm, ⟨33, _⟩ => ⟨S_, .f32⟩
  | .hbm, ⟨34, _⟩ => ⟨S8x4096x3072, .f32⟩
  | .hbm, ⟨35, _⟩ => ⟨S8x4096x3072, .f32⟩
  | .hbm, ⟨36, _⟩ => ⟨S8x4096x3072, .f32⟩
  | .hbm, ⟨37, _⟩ => ⟨S8x4096x3072, .f32⟩
  | .hbm, ⟨38, _⟩ => ⟨S8x4096x768, .f32⟩
  | .hbm, ⟨39, _⟩ => ⟨S8x1x768, .f32⟩
  | .hbm, ⟨40, _⟩ => ⟨S8x4096x768, .f32⟩
  | .hbm, ⟨41, _⟩ => ⟨S8x4096x768, .f32⟩
  | .hbm, ⟨42, _⟩ => ⟨S4096x2, .i32⟩
  | .hbm, ⟨43, _⟩ => ⟨S2x4096, .i32⟩
  | .hbm, ⟨44, _⟩ => ⟨S4096, .i32⟩
  | .hbm, ⟨45, _⟩ => ⟨S1x4096, .i32⟩
  | .hbm, ⟨46, _⟩ => ⟨S_, .i32⟩
  | .hbm, ⟨47, _⟩ => ⟨S2x4096, .i32⟩
  | .hbm, ⟨48, _⟩ => ⟨S2x4096, .i1⟩
  | .hbm, ⟨49, _⟩ => ⟨S_, .i32⟩
  | .hbm, ⟨50, _⟩ => ⟨S2x4096, .i32⟩
  | .hbm, ⟨51, _⟩ => ⟨S2x4096, .i32⟩
  | .hbm, ⟨52, _⟩ => ⟨S2x4096, .i32⟩
  | .hbm, ⟨53, _⟩ => ⟨S_, .i32⟩
  | .hbm, ⟨54, _⟩ => ⟨S1x4096, .i32⟩
  | .hbm, ⟨55, _⟩ => ⟨S1x4096, .i1⟩
  | .hbm, ⟨56, _⟩ => ⟨S_, .i32⟩
  | .hbm, ⟨57, _⟩ => ⟨S1x4096, .i32⟩
  | .hbm, ⟨58, _⟩ => ⟨S1x4096, .i32⟩
  | .hbm, ⟨59, _⟩ => ⟨S1x4096, .i32⟩
  | .hbm, ⟨60, _⟩ => ⟨S2x4096, .i32⟩
  | .hbm, ⟨61, _⟩ => ⟨S2x4096x1, .i32⟩
  | .hbm, ⟨62, _⟩ => ⟨S2x4096x1, .i32⟩
  | .hbm, ⟨63, _⟩ => ⟨S2x4096x2, .i32⟩
  | .hbm, ⟨64, _⟩ => ⟨S2x4096x768, .f32⟩
  | .hbm, ⟨65, _⟩ => ⟨S4096x2x768, .f32⟩
  | .hbm, ⟨66, _⟩ => ⟨S4096x2x1, .f32⟩
  | .hbm, ⟨67, _⟩ => ⟨S4096x2x768, .f32⟩
  | .hbm, ⟨68, _⟩ => ⟨S4096x2x768, .f32⟩
  | .hbm, ⟨69, _⟩ => ⟨S_, .f32⟩
  | .hbm, ⟨70, _⟩ => ⟨S4096x768, .f32⟩
  | .hbm, ⟨71, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Proof.KernelIdeal.Gate.lean ====
/-
  The routing call (`cc0__gate_kernel`): grid point `t` reads 2048 token rows and the whole gate matrix, and writes the
  2048 × 8 table of routing weights of these rows. This module names the table (`gateOf`) as a function of the two blocks
  the point reads, and shows that the call's body, run at any point, leaves that table in its output window.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The table of routing weights of 2048 token rows `x` under the gate matrix `g`: what the body stores. -/
def gateOf (x : Vec F S2048x768 .f32) (g : Vec F S8x768 .f32) : FVec F S2048x8 .f32 :=
  k0_pay1 (k0_pay8 x g) (k0_pay9 x g) (k0_pay10 x g) (Scalar.ofBits .f32 0x00000000#32)

set_option maxHeartbeats 1000000 in
/-- The body, handed its two input buffers and its output buffer, gives the inputs back as they were and the output
    holding `gateOf` of them, whatever the output held before. -/
theorem gate_triple (c : Dev nD) (E : Set ℕ) (i : grid0.Coords)
    (a1 : Memref sig .tc .vmem S2048x768 .f32) (w1 : a1.IsWhole) (a2 : Memref sig .tc .vmem S8x768 .f32) (w2 : a2.IsWhole)
    (a3 : Memref sig .tc .vmem S2048x8 .f32) (w3 : a3.IsWhole) (x : Vec F S2048x768 .f32) (g : Vec F S8x768 .f32) (K : PUnit → sProp 𝕄) :
    iprop((owns (c : Thread nD τ) a1 fullShare x ∗ owns (c : Thread nD τ) a2 fullShare g ∗ ∃ o, owns (c : Thread nD τ) a3 fullShare o)
        ∗ (iprop(owns (c : Thread nD τ) a1 fullShare x ∗ owns (c : Thread nD τ) a2 fullShare g ∗ owns (c : Thread nD τ) a3 fullShare (gateOf x g)) -∗ K ⟨⟩))
      ⊢ wp frame (wpE (defs₀ (F := F)) Variants.none c none) E (cc0__gate_kernel i a1 w1 a2 w2 a3 w3) K := by
  simp only [cc0__gate_kernel_eq_skeleton]; unfold cc0__gate_kernel_skel
  simp only [k0_part1_eq_skeleton]
  unfold owns
  iintro ⟨⟨⟨%b1, %e1, B1⟩, ⟨%b2, %e2, B2⟩, ⟨%o, %b3, -, B3⟩⟩, HK⟩
  subst e1 e2
  sl_exec
  sl_step
  iapply HK
  isplitl [B1]
  · iexists b1; isplitr [B1]; · ipureintro; rfl
    iexact B1
  isplitl [B2]
  · iexists b2; isplitr [B2]; · ipureintro; rfl
    iexact B2
  iexists _; isplitr [B3]
  swap; · iexact B3
  ipureintro
  rw [View.read_writes_full]
  unfold gateOf
  rw [← View.readAt_full a1.view b1 inb_S2048x768_S2048x768_0_0, ← View.readAt_full a2.view b2 inb_S8x768_S8x768_0_0]
  rfl

section Region

variable (V : (c : Dev nD) → (b : Ref sig .tc) → Buf (Elt F) ((c : Thread nD τ).loc b))

/-- Window `w`'s block at grid point `t`, read off the array it tiles. -/
def gateBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the routing call on device `c`, entered with the buffers at `V`. -/
def gateDat (c : Dev nD) : Dat τ (Elt F) Unit ℕ (UR sig nD τ) ℕ cfg0 c where
  A w := V c (Pipeline.arrRef spec0 w)
  after w t := match w with
    | ⟨0, _⟩ => gateBlk V c 0 t
    | ⟨1, _⟩ => gateBlk V c 1 t
    | ⟨2, _⟩ => gateOf (gateBlk V c 0 t) (gateBlk V c 1 t)
  Φ _ := Pipeline.ΦA spec0 c
  q _ := fullShare
  owed _ := 0

theorem gateDat_A (c : Dev nD) (w : Fin cfg0.W) : (gateDat V c).A w = V c (Pipeline.arrRef spec0 w) := by dsimp only [gateDat]
theorem gateDat_after0 (c : Dev nD) (t : Fin cfg0.N) : (gateDat V c).after 0 t = gateBlk V c 0 t := by dsimp only [gateDat]
theorem gateDat_after1 (c : Dev nD) (t : Fin cfg0.N) : (gateDat V c).after 1 t = gateBlk V c 1 t := by dsimp only [gateDat]
theorem gateDat_after2 (c : Dev nD) (t : Fin cfg0.N) :
    (gateDat V c).after 2 t = gateOf (gateBlk V c 0 t) (gateBlk V c 1 t) := by dsimp only [gateDat]

/-- The block of the token rows is in its buffer when the body starts, -/
theorem gateDat_before0 (c : Dev nD) (t : Fin cfg0.N) (d) : (gateDat V c).before 0 t d = gateBlk V c 0 t :=
  ((gateDat V c).before_in_eq_fetched 0 rfl (fun _ => rfl) (fun _ _ _ => rfl)
    (fun t => by rw [gateDat_after0]; unfold Dat.blockOf gateBlk; rw [gateDat_A]; try rfl) t d).trans
    (by unfold Dat.fetched Dat.blockOf gateBlk; rw [gateDat_A]; try rfl)

/-- and so is the gate matrix, also at the point that does not fetch it. -/
theorem gateDat_before1 (c : Dev nD) (t : Fin cfg0.N) (d) : (gateDat V c).before 1 t d = gateBlk V c 1 t :=
  ((gateDat V c).before_in_eq_fetched 1 rfl (fun _ => rfl) (fun _ _ _ => rfl)
    (fun t => by rw [gateDat_after1]; unfold Dat.blockOf gateBlk; rw [gateDat_A]; try rfl) t d).trans
    (by unfold Dat.fetched Dat.blockOf gateBlk; rw [gateDat_A]; try rfl)

/-- What the body holds of the pipeline when called at point `t`, -/
def gatePre (c : Dev nD) (t : Fin cfg0.N) : sProp 𝕄 :=
  iprop((gateDat V c).Φ t.castSucc ∗ (gateDat V c).owesAt () t.castSucc
    ∗ (∃ d, owns (c : Thread nD τ) (st0_0 t) fullShare ((gateDat V c).before 0 t d))
    ∗ (∃ d, owns (c : Thread nD τ) (st0_1 t) fullShare ((gateDat V c).before 1 t d))
    ∗ (∃ d, owns (c : Thread nD τ) (st0_2 t) fullShare ((gateDat V c).before 2 t d)))

/-- and what it holds when it returns. -/
def gatePost (c : Dev nD) (t : Fin cfg0.N) : sProp 𝕄 :=
  iprop((gateDat V c).Φ t.succ ∗ (gateDat V c).owesAt () t.succ
    ∗ owns (c : Thread nD τ) (st0_0 t) fullShare ((gateDat V c).after 0 t)
    ∗ owns (c : Thread nD τ) (st0_1 t) fullShare ((gateDat V c).after 1 t)
    ∗ owns (c : Thread nD τ) (st0_2 t) fullShare ((gateDat V c).after 2 t))

theorem gate_at (c : Dev nD) (t : Fin cfg0.N) :
    gatePre V c t ⊢ wp frame (wpE (defs₀ (F := F)) Variants.none c none) Set.univ (bodyAt0 t) (fun _ => gatePost V c t) := by
  unfold gatePre gatePost bodyAt0
  simp only [gateDat_before0, gateDat_before1]
  rw [show (gateDat V c).Φ t.succ = (gateDat V c).Φ t.castSucc from rfl,
    show (gateDat V c).owesAt () t.succ = (gateDat V c).owesAt () t.castSucc from rfl,
    gateDat_after0, gateDat_after1, gateDat_after2]
  iintro ⟨HΦ, HO, ⟨%d0, B0⟩, ⟨%d1, B1⟩, ⟨%d2, B2⟩⟩
  iapply (gate_triple c Set.univ (grid0.coords t) _ _ _ _ _ _ (gateBlk V c 0 t) (gateBlk V c 1 t) _)
  isplitl [B0 B1 B2]
  · isplitl [B0]; · iexact B0
    isplitl [B1]; · iexact B1
    iexists _; iexact B2
  iintro HB
  isplitl [HΦ]; · iexact HΦ
  isplitl [HO]; · iexact HO
  iexact HB

/-- The pipeline's obligation on the body, at every grid point. -/
theorem gate_obligation (c : Dev nD) : BodyObligation (gateDat (F := F) V c) (defs₀ (F := F)) Variants.none () Set.univ := fun t => by
  rw [bigSep_W0, bigSep_W0,
    show defs₀ (F := F) .tc cfg0.body (cfg0.bodyArgs t (cfg0.slots t)) = bodyAt0 t from by unfold defs₀; rw [Defs.onTc_tc]]
  exact triple_restated (gate_at V c t) rfl .rfl fun _ => .rfl

end Region

end Cert.KernelIdeal.Moe

end
-- ==== Proof.KernelIdeal.Experts.lean ====
/-
  The expert call (`cc1__moe_kernel`): grid point `e` holds the whole token matrix, the table of routing weights and expert
  `e`'s own matrices, and walks over the tokens in eight blocks of 512 rows. For each block it computes the expert's output
  rows, scales every row by its routing weight, and stores the result (expert 0) or adds it to what the earlier experts left
  (the others). This module names what a block, a point and the whole walk leave, and shows that the body leaves it.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## What the walk computes -/

/-- The token block `k` starts at row `512 k`. -/
abbrev blkOff (k : ℕ) : Fin 2 → ℕ := ![512 * k, 0]

theorem blkOff_rows {k : ℕ} (hk : k < 8) : ∀ a, blkOff k a + S512x768.size a ≤ S4096x768.size a := fun a => match a with
  | ⟨0, _⟩ => by show 512 * k + 512 ≤ 4096; omega
  | ⟨1, _⟩ => by show 0 + 768 ≤ 768; omega

theorem blkOff_wts {k : ℕ} (hk : k < 8) : ∀ a, blkOff k a + S512x8.size a ≤ S4096x8.size a := fun a => match a with
  | ⟨0, _⟩ => by show 512 * k + 512 ≤ 4096; omega
  | ⟨1, _⟩ => by show 0 + 8 ≤ 8; omega

/-- The operands of one grid point: the routing weights, the tokens, and the expert's two matrices and two biases. -/
structure Operands (F : FTy → Type) where
  w : Vec F S4096x8 .f32
  x : Vec F S4096x768 .bf16
  W1 : Vec F S1x3072x768 .bf16
  W2 : Vec F S1x768x3072 .bf16
  b1 : Vec F S1x1x3072 .f32
  b2 : Vec F S1x1x768 .f32

/-- The expert's output rows for token block `k`. -/
def Operands.rows (P : Operands F) (k : ℕ) (hk : k < 8) : FVec F S512x768 .f32 :=
  k1_pay3 (VecWindow.window P.x (blkOff k) S512x768.size (blkOff_rows hk)) P.W1 P.b1 P.W2 P.b2

/-- Block `k`'s column of routing weights of expert `e`. -/
def Operands.col (P : Operands F) (e k : ℕ) (hk : k < 8) : FVec F S512x1 .f32 :=
  k1_pay4 (BitVec.ofNat 32 e) (VecWindow.window P.w (blkOff k) S512x8.size (blkOff_wts hk))

/-- What block `k` of the output holds after expert `e`, from what it held before. -/
def Operands.block (P : Operands F) (e k : ℕ) (hk : k < 8) (old : Vec F S512x768 .f32) : FVec F S512x768 .f32 :=
  if e = 0 then k1_pay1 (P.rows k hk) (P.col e k hk) else k1_pay2 (P.rows k hk) (P.col e k hk) old

/-- The output after the first `k` blocks of expert `e`, from the output before it. -/
def Operands.walk (P : Operands F) (e : ℕ) (g : Vec F S4096x768 .f32) : ℕ → Vec F S4096x768 .f32
  | 0 => g
  | k + 1 => if hk : k < 8 then
      VecWindow.put (P.walk e g k) (blkOff k) S512x768.size
        (P.block e k hk (VecWindow.window (P.walk e g k) (blkOff k) S512x768.size (blkOff_rows hk)))
    else P.walk e g k

theorem Operands.walk_succ (P : Operands F) (e : ℕ) (g : Vec F S4096x768 .f32) (k : ℕ) (hk : k < 8) :
    P.walk e g (k + 1) = VecWindow.put (P.walk e g k) (blkOff k) S512x768.size
        (P.block e k hk (VecWindow.window (P.walk e g k) (blkOff k) S512x768.size (blkOff_rows hk))) := by
  rw [Operands.walk, dif_pos hk]

/-- The body's first condition holds at expert 0 alone, -/
theorem first_iff : ∀ i : grid1.Coords, k1_cond1 i = 1#1 ↔ (i 0).val = 0 := by decide +kernel
/-- and the second at the others. -/
theorem later_iff : ∀ i : grid1.Coords, k1_cond2 i = 1#1 ↔ (i 0).val ≠ 0 := by decide +kernel
theorem trips_eq : k1_t1_loop.trips = 8 := by decide +kernel

/-! ## One block of the walk -/

/-- What the walk holds: the operands' buffers, unchanged, and the output's. -/
abbrev Held (c : Dev nD) (a1 : Memref sig .tc .vmem S4096x8 .f32) (a2 : Memref sig .tc .vmem S4096x768 .bf16)
    (a3 : Memref sig .tc .vmem S1x3072x768 .bf16) (a4 : Memref sig .tc .vmem S1x768x3072 .bf16)
    (a5 : Memref sig .tc .vmem S1x1x3072 .f32) (a6 : Memref sig .tc .vmem S1x1x768 .f32) (a7 : Memref sig .tc .vmem S4096x768 .f32)
    (f1 : BufTy.Contents (Elt F) a1.view.ty) (f2 : BufTy.Contents (Elt F) a2.view.ty) (f3 : BufTy.Contents (Elt F) a3.view.ty)
    (f4 : BufTy.Contents (Elt F) a4.view.ty) (f5 : BufTy.Contents (Elt F) a5.view.ty) (f6 : BufTy.Contents (Elt F) a6.view.ty)
    (out : Vec F S4096x768 .f32) : sProp 𝕄 :=
  iprop((a1.view.loc (c : Thread nD τ) ↦[a1.view.set]{fullShare} f1) ∗ (a2.view.loc (c : Thread nD τ) ↦[a2.view.set]{fullShare} f2)
    ∗ (a3.view.loc (c : Thread nD τ) ↦[a3.view.set]{fullShare} f3) ∗ (a4.view.loc (c : Thread nD τ) ↦[a4.view.set]{fullShare} f4)
    ∗ (a5.view.loc (c : Thread nD τ) ↦[a5.view.set]{fullShare} f5) ∗ (a6.view.loc (c : Thread nD τ) ↦[a6.view.set]{fullShare} f6)
    ∗ (∃ f, (a7.view.loc (c : Thread nD τ) ↦[a7.view.set]{fullShare} f) ∗ ⌜a7.view.read (Elt F) f = out⌝))

/-- The operands as the buffers hold them. -/
abbrev operandsOf (a1 : Memref sig .tc .vmem S4096x8 .f32) (a2 : Memref sig .tc .vmem S4096x768 .bf16)
    (a3 : Memref sig .tc .vmem S1x3072x768 .bf16) (a4 : Memref sig .tc .vmem S1x768x3072 .bf16)
    (a5 : Memref sig .tc .vmem S1x1x3072 .f32) (a6 : Memref sig .tc .vmem S1x1x768 .f32)
    (f1 : BufTy.Contents (Elt F) a1.view.ty) (f2 : BufTy.Contents (Elt F) a2.view.ty) (f3 : BufTy.Contents (Elt F) a3.view.ty)
    (f4 : BufTy.Contents (Elt F) a4.view.ty) (f5 : BufTy.Contents (Elt F) a5.view.ty) (f6 : BufTy.Contents (Elt F) a6.view.ty) : Operands F :=
  ⟨a1.view.read (Elt F) f1, a2.view.read (Elt F) f2, a3.view.read (Elt F) f3, a4.view.read (Elt F) f4, a5.view.read (Elt F) f5, a6.view.read (Elt F) f6⟩

section Walk

variable (c : Dev nD) (E : Set ℕ) (i : grid1.Coords)
  (a1 : Memref sig .tc .vmem S4096x8 .f32) (w1 : a1.IsWhole) (a2 : Memref sig .tc .vmem S4096x768 .bf16) (w2 : a2.IsWhole)
  (a3 : Memref sig .tc .vmem S1x3072x768 .bf16) (w3 : a3.IsWhole) (a4 : Memref sig .tc .vmem S1x768x3072 .bf16) (w4 : a4.IsWhole)
  (a5 : Memref sig .tc .vmem S1x1x3072 .f32) (w5 : a5.IsWhole) (a6 : Memref sig .tc .vmem S1x1x768 .f32) (w6 : a6.IsWhole)
  (a7 : Memref sig .tc .vmem S4096x768 .f32) (w7 : a7.IsWhole)
  (f1 : BufTy.Contents (Elt F) a1.view.ty) (f2 : BufTy.Contents (Elt F) a2.view.ty) (f3 : BufTy.Contents (Elt F) a3.view.ty)
  (f4 : BufTy.Contents (Elt F) a4.view.ty) (f5 : BufTy.Contents (Elt F) a5.view.ty) (f6 : BufTy.Contents (Elt F) a6.view.ty)
  (g : Vec F S4096x768 .f32)

/-- The rows the body computes from the buffers are the expert's output rows for block `k`, -/
theorem rows_read (k : Fin k1_t1_loop.trips) (hk : k.val < 8) :
    k1_pay3 (a2.view.readAt (Elt F) (Rect.unit (s := S4096x768) (k1_off1 k) S512x768.size (k1_off1_inb k)).toLoadRect f2)
        (a3.view.readAt (Elt F) (Rect.unit (s := S1x3072x768) ![0, 0, 0] S1x3072x768.size inb_S1x3072x768_S1x3072x768_0_0_0).toLoadRect f3)
        (a5.view.readAt (Elt F) (Rect.unit (s := S1x1x3072) ![0, 0, 0] S1x1x3072.size inb_S1x1x3072_S1x1x3072_0_0_0).toLoadRect f5)
        (a4.view.readAt (Elt F) (Rect.unit (s := S1x768x3072) ![0, 0, 0] S1x768x3072.size inb_S1x768x3072_S1x768x3072_0_0_0).toLoadRect f4)
        (a6.view.readAt (Elt F) (Rect.unit (s := S1x1x768) ![0, 0, 0] S1x1x768.size inb_S1x1x768_S1x1x768_0_0_0).toLoadRect f6)
      = (operandsOf a1 a2 a3 a4 a5 a6 f1 f2 f3 f4 f5 f6).rows k.val hk := by
  unfold Operands.rows
  rw [View.readAt_unit a2.view f2 (k1_off1_inb k) (k1_off1_eq k) (blkOff_rows hk), View.readAt_full, View.readAt_full,
    View.readAt_full, View.readAt_full]

/-- and the weights it computes are the block's column of the table. -/
theorem col_read (e : ℕ) (k : Fin k1_t1_loop.trips) (hk : k.val < 8) :
    k1_pay4 (BitVec.ofNat 32 e) (a1.view.readAt (Elt F) (Rect.unit (s := S4096x8) (k1_off2 k) S512x8.size (k1_off2_inb k)).toLoadRect f1)
      = (operandsOf a1 a2 a3 a4 a5 a6 f1 f2 f3 f4 f5 f6).col e k.val hk := by
  unfold Operands.col
  rw [View.readAt_unit a1.view f1 (k1_off2_inb k) (k1_off2_eq k) (blkOff_wts hk)]

set_option maxHeartbeats 1000000 in
/-- Block `k` takes the output from what the first `k` blocks leave to what the first `k + 1` do. -/
theorem block_triple (k : Fin k1_t1_loop.trips) (u : Unit) :
    Held c a1 a2 a3 a4 a5 a6 a7 f1 f2 f3 f4 f5 f6 ((operandsOf a1 a2 a3 a4 a5 a6 f1 f2 f3 f4 f5 f6).walk (i 0).val g k.val)
      ⊢ wp frame (wpE (defs₀ (F := F)) Variants.none (c : Thread nD τ) none) E
          (k1_t1_body (F := F) i a1 w1 a2 w2 a3 w3 a4 w4 a5 w5 a6 w6 a7 w7 (BitVec.ofNat 32 (i 0).val) k u)
          (fun _ => Held c a1 a2 a3 a4 a5 a6 a7 f1 f2 f3 f4 f5 f6 ((operandsOf a1 a2 a3 a4 a5 a6 f1 f2 f3 f4 f5 f6).walk (i 0).val g (k.val + 1))) := by
  have hk : k.val < 8 := Nat.lt_of_lt_of_le k.isLt trips_eq.le
  have hrows := rows_read a1 a2 a3 a4 a5 a6 f1 f2 f3 f4 f5 f6 k hk
  have hcol := col_read a1 a2 a3 a4 a5 a6 f1 f2 f3 f4 f5 f6 (i 0).val k hk
  rw [Operands.walk_succ _ _ _ _ hk]
  unfold k1_t1_body
  iintro ⟨H1, H2, H3, H4, H5, H6, ⟨%f7, H7, %e7⟩⟩
  by_cases h0 : (i 0).val = 0
  · have c1 : k1_cond1 i = 1#1 := (first_iff i).mpr h0
    have c2 : ¬ k1_cond2 i = 1#1 := fun h => (later_iff i).mp h h0
    simp only [dif_pos c1, dif_neg c2]
    sl_exec
    sl_step
    isplitl [H1]; · iexact H1
    isplitl [H2]; · iexact H2
    isplitl [H3]; · iexact H3
    isplitl [H4]; · iexact H4
    isplitl [H5]; · iexact H5
    isplitl [H6]; · iexact H6
    iexists _; isplitl [H7]; · iexact H7
    ipureintro
    refine (View.read_writes_cons_put a7.view f7 (k1_off3_inb i k c1) _ [] (k1_off3_eq k)).trans ?_
    rw [View.writes_nil, e7]
    unfold Operands.block
    rw [if_pos h0, ← hrows, ← hcol]
    rfl
  · have c1 : ¬ k1_cond1 i = 1#1 := fun h => h0 ((first_iff i).mp h)
    have c2 : k1_cond2 i = 1#1 := (later_iff i).mpr h0
    simp only [dif_neg c1, dif_pos c2]
    sl_exec
    sl_step
    isplitl [H1]; · iexact H1
    isplitl [H2]; · iexact H2
    isplitl [H3]; · iexact H3
    isplitl [H4]; · iexact H4
    isplitl [H5]; · iexact H5
    isplitl [H6]; · iexact H6
    iexists _; isplitl [H7]; · iexact H7
    ipureintro
    refine (View.read_writes_cons_put a7.view f7 (k1_off4_inb i k c2) _ [] (k1_off4_eq k)).trans ?_
    rw [View.writes_nil, View.readAt_unit a7.view f7 (k1_off4_inb i k c2) (k1_off4_eq k) (blkOff_rows hk), e7]
    unfold Operands.block
    rw [if_neg h0, ← hrows, ← hcol]
    rfl

set_option warn.classDefReducibility false in
/-- The walk by its invariant: before block `k` the output holds what the first `k` blocks leave. -/
@[sl_loop] def walkLoop :
    Idealize.ShloMosaic.LoopInv (M := 𝕄) Idealize.ShloMosaic.frame (wpE (defs₀ (F := F)) Variants.none (c : Thread nD τ) none) E
      k1_t1_loop.lb k1_t1_loop.ub k1_t1_loop.st k1_t1_ok ()
      (k1_t1_body (F := F) i a1 w1 a2 w2 a3 w3 a4 w4 a5 w5 a6 w6 a7 w7 (BitVec.ofNat 32 (i 0).val)) where
  inv k _ := Held c a1 a2 a3 a4 a5 a6 a7 f1 f2 f3 f4 f5 f6 ((operandsOf a1 a2 a3 a4 a5 a6 f1 f2 f3 f4 f5 f6).walk (i 0).val g k)
  step k u := block_triple c E i a1 w1 a2 w2 a3 w3 a4 w4 a5 w5 a6 w6 a7 w7 f1 f2 f3 f4 f5 f6 g k u

set_option maxHeartbeats 1000000 in
/-- The body, handed the buffers of its operands and of the output, gives the operands back and the output after all
    eight blocks. -/
theorem expert_triple (P : Operands F) (K : PUnit → sProp 𝕄) :
    iprop((owns (c : Thread nD τ) a1 fullShare P.w ∗ owns (c : Thread nD τ) a2 fullShare P.x ∗ owns (c : Thread nD τ) a3 fullShare P.W1
          ∗ owns (c : Thread nD τ) a4 fullShare P.W2 ∗ owns (c : Thread nD τ) a5 fullShare P.b1 ∗ owns (c : Thread nD τ) a6 fullShare P.b2
          ∗ owns (c : Thread nD τ) a7 fullShare g)
        ∗ (iprop(owns (c : Thread nD τ) a1 fullShare P.w ∗ owns (c : Thread nD τ) a2 fullShare P.x ∗ owns (c : Thread nD τ) a3 fullShare P.W1
          ∗ owns (c : Thread nD τ) a4 fullShare P.W2 ∗ owns (c : Thread nD τ) a5 fullShare P.b1 ∗ owns (c : Thread nD τ) a6 fullShare P.b2
          ∗ owns (c : Thread nD τ) a7 fullShare (P.walk (i 0).val g 8)) -∗ K ⟨⟩))
      ⊢ wp frame (wpE (defs₀ (F := F)) Variants.none c none) E (cc1__moe_kernel i a1 w1 a2 w2 a3 w3 a4 w4 a5 w5 a6 w6 a7 w7) K := by
  simp only [cc1__moe_kernel_eq_skeleton]; unfold cc1__moe_kernel_skel
  obtain ⟨pw, px, p1, p2, p3, p4⟩ := P
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, HK⟩
  dsimp only at e1 e2 e3 e4 e5 e6
  subst e1 e2 e3 e4 e5 e6
  let L := walkLoop c E i a1 w1 a2 w2 a3 w3 a4 w4 a5 w5 a6 w6 a7 w7 f1 f2 f3 f4 f5 f6 g
  sl_exec
  sl_step
  rw [show Scf.trips k1_t1_loop.lb k1_t1_loop.ub k1_t1_loop.st = 8 from trips_eq] at hL7
  iapply HK
  isplitl [H1]
  · iexists f1; isplitr [H1]; · ipureintro; rfl
    iexact H1
  isplitl [H2]
  · iexists f2; isplitr [H2]; · ipureintro; rfl
    iexact H2
  isplitl [H3]
  · iexists f3; isplitr [H3]; · ipureintro; rfl
    iexact H3
  isplitl [H4]
  · iexists f4; isplitr [H4]; · ipureintro; rfl
    iexact H4
  isplitl [H5]
  · iexists f5; isplitr [H5]; · ipureintro; rfl
    iexact H5
  isplitl [H6]
  · iexists f6; isplitr [H6]; · ipureintro; rfl
    iexact H6
  iexists fL0; isplitr [H7]; · ipureintro; exact hL7
  iexact H7

end Walk

end Cert.KernelIdeal.Moe

end
-- ==== Proof.KernelIdeal.ExpertCall.lean ====
/-
  The expert call as a pipeline: what its output buffer holds after each grid point, and that every point's body leaves it.
  The output block is the same at every point, so it stays in its buffer from one point to the next and is written back
  once, after the last. Expert 0 stores all eight blocks without reading them, so whatever the buffer held first is gone.
-/
module

public import proofs.«01_k».proof.Proof.KernelIdeal.Experts
public import Idealize.ShloMosaic.Lib.ValueIdxCore

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx (ix2)

variable {F : FTy → Type} [FloatOps F]

local notation "𝕄" => MT nD τ sig Unit (Elt F) ℕ (UR sig nD τ) ℕ

/-! ## The walk at an index -/

/-- The block of token row `y 0`, -/
theorem blk_lt (y : S4096x768.Idx) : (y 0).val / 512 < 8 := by have h : (y 0).val < 4096 := (y 0).isLt; omega
/-- and the row's place in it. -/
def inBlk (y : S4096x768.Idx) : S512x768.Idx :=
  ix2 (n0 := 512) (n1 := 768) ⟨(y 0).val % 512, Nat.mod_lt _ (by decide)⟩ (y 1)

/-- The walk at an index: rows of the blocks walked hold what their block computes from what the output held before the
    walk, the other rows are as before. -/
theorem Operands.walk_apply (P : Operands F) (e : ℕ) (g : Vec F S4096x768 .f32) : ∀ (k : ℕ), k ≤ 8 → ∀ y : S4096x768.Idx,
    P.walk e g k y = if (y 0).val < 512 * k then
        P.block e ((y 0).val / 512) (blk_lt y)
          (VecWindow.window g (blkOff ((y 0).val / 512)) S512x768.size (blkOff_rows (blk_lt y))) (inBlk y)
      else g y
  | 0, _, y => by rw [if_neg (by omega)]; rfl
  | k + 1, hk, y => by
    have hk' : k < 8 := hk
    have hold : VecWindow.window (P.walk e g k) (blkOff k) S512x768.size (blkOff_rows hk')
        = VecWindow.window g (blkOff k) S512x768.size (blkOff_rows hk') := by
      funext z
      show P.walk e g k _ = g _
      rw [Operands.walk_apply P e g k hk'.le, if_neg]
      show ¬ 512 * k + 1 * (z 0).val < 512 * k
      omega
    rw [Operands.walk_succ P e g k hk', hold]
    unfold VecWindow.put
    by_cases hy : 512 * k ≤ (y 0).val ∧ (y 0).val < 512 * k + 512
    · have hq : (y 0).val / 512 = k := by omega
      have hin : ∀ a, blkOff k a ≤ (y a).val ∧ (y a).val < blkOff k a + S512x768.size a := fun a => match a with
        | ⟨0, _⟩ => hy
        | ⟨1, _⟩ => ⟨Nat.zero_le _, by have h : (y 1).val < 768 := (y 1).isLt; show (y 1).val < 0 + 768; omega⟩
      rw [dif_pos hin, if_pos (by omega)]
      have hloc : (Rect.unitLocal (s := S4096x768) (off := blkOff k) (size := S512x768.size) y hin) = inBlk y :=
        funext fun a => Fin.ext (match a with
          | ⟨0, _⟩ => by show (y 0).val - 512 * k = (y 0).val % 512; omega
          | ⟨1, _⟩ => by show (y 1).val - 0 = (y 1).val; omega)
      have key : ∀ (q : ℕ) (h : q < 8), q = k → P.block e k hk' (VecWindow.window g (blkOff k) S512x768.size (blkOff_rows hk'))
          = P.block e q h (VecWindow.window g (blkOff q) S512x768.size (blkOff_rows h)) := fun q h hq => by subst hq; rfl
      exact (congrFun (key _ (blk_lt y) hq) _).trans (congrArg _ hloc)
    · rw [dif_neg fun h => hy (h 0), Operands.walk_apply P e g k hk'.le y]
      by_cases hlt : (y 0).val < 512 * k
      · rw [if_pos hlt, if_pos (by omega)]
      · rw [if_neg hlt, if_neg (by omega)]

/-- After all eight blocks every row is a walked one. -/
theorem Operands.walk_all (P : Operands F) (e : ℕ) (g : Vec F S4096x768 .f32) (y : S4096x768.Idx) :
    P.walk e g 8 y = P.block e ((y 0).val / 512) (blk_lt y)
          (VecWindow.window g (blkOff ((y 0).val / 512)) S512x768.size (blkOff_rows (blk_lt y))) (inBlk y) := by
  have h : (y 0).val < 4096 := (y 0).isLt
  rw [Operands.walk_apply P e g 8 le_rfl, if_pos (by omega)]

/-- Expert 0 leaves the same whatever the output held before. -/
theorem Operands.walk_first (P : Operands F) (g g' : Vec F S4096x768 .f32) : P.walk 0 g 8 = P.walk 0 g' 8 := by
  funext y
  rw [Operands.walk_all, Operands.walk_all]
  unfold Operands.block
  rw [if_pos rfl, if_pos rfl]

/-! ## The call -/

section Region

variable (V : (c : Dev nD) → (b : Ref sig .tc) → Buf (Elt F) ((c : Thread nD τ).loc b))

/-- Window `w`'s block at grid point `t`, read off the array it tiles. -/
def expBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The operands at grid point `t`. -/
def expOperands (c : Dev nD) (t : Fin cfg1.N) : Operands F :=
  ⟨expBlk V c 0 t, expBlk V c 1 t, expBlk V c 2 t, expBlk V c 3 t, expBlk V c 4 t, expBlk V c 5 t⟩

/-- The output after the first `n` grid points (expert 0 ignores the zeros it is started from here). -/
def accum (c : Dev nD) : ℕ → Vec F S4096x768 .f32
  | 0 => constant S4096x768 .f32 0x00000000#32
  | n + 1 => if h : n < cfg1.N then (expOperands V c ⟨n, h⟩).walk (grid1.coords ⟨n, h⟩ 0).val (accum c n) 8 else accum c n

theorem accum_succ (c : Dev nD) (t : Fin cfg1.N) :
    accum V c (t.val + 1) = (expOperands V c t).walk (grid1.coords t 0).val (accum V c t.val) 8 := by
  rw [accum, dif_pos t.isLt]

/-- Grid point `t` is expert `t`. -/
theorem coord1 : ∀ t : Fin grid1.N, (grid1.coords t 0).val = t.val := by decide +kernel

/-- The proof data of the expert call on device `c`, entered with the buffers at `V`. -/
def expDat (c : Dev nD) : Dat τ (Elt F) Unit ℕ (UR sig nD τ) ℕ cfg1 c where
  A w := V c (Pipeline.arrRef spec1 w)
  after w t := match w with
    | ⟨0, _⟩ => expBlk V c 0 t
    | ⟨1, _⟩ => expBlk V c 1 t
    | ⟨2, _⟩ => expBlk V c 2 t
    | ⟨3, _⟩ => expBlk V c 3 t
    | ⟨4, _⟩ => expBlk V c 4 t
    | ⟨5, _⟩ => expBlk V c 5 t
    | ⟨6, _⟩ => accum V c (t.val + 1)
  Φ _ := Pipeline.ΦA spec1 c
  q _ := fullShare
  owed _ := 0

theorem expDat_A (c : Dev nD) (w : Fin cfg1.W) : (expDat V c).A w = V c (Pipeline.arrRef spec1 w) := by dsimp only [expDat]
theorem expDat_after0 (c : Dev nD) (t : Fin cfg1.N) : (expDat V c).after 0 t = expBlk V c 0 t := by dsimp only [expDat]
theorem expDat_after1 (c : Dev nD) (t : Fin cfg1.N) : (expDat V c).after 1 t = expBlk V c 1 t := by dsimp only [expDat]
theorem expDat_after2 (c : Dev nD) (t : Fin cfg1.N) : (expDat V c).after 2 t = expBlk V c 2 t := by dsimp only [expDat]
theorem expDat_after3 (c : Dev nD) (t : Fin cfg1.N) : (expDat V c).after 3 t = expBlk V c 3 t := by dsimp only [expDat]
theorem expDat_after4 (c : Dev nD) (t : Fin cfg1.N) : (expDat V c).after 4 t = expBlk V c 4 t := by dsimp only [expDat]
theorem expDat_after5 (c : Dev nD) (t : Fin cfg1.N) : (expDat V c).after 5 t = expBlk V c 5 t := by dsimp only [expDat]
theorem expDat_after6 (c : Dev nD) (t : Fin cfg1.N) : (expDat V c).after 6 t = accum V c (t.val + 1) := by dsimp only [expDat]

/-- Every operand's block is in its buffer when the body starts, also at the points that do not fetch it. -/
theorem expDat_before0 (c : Dev nD) (t : Fin cfg1.N) (d) : (expDat V c).before 0 t d = expBlk V c 0 t :=
  ((expDat V c).before_in_eq_fetched 0 rfl (fun _ => rfl) (fun _ _ _ => rfl)
    (fun t => by rw [expDat_after0]; unfold Dat.blockOf expBlk; rw [expDat_A]; try rfl) t d).trans
    (by unfold Dat.fetched Dat.blockOf expBlk; rw [expDat_A]; try rfl)
theorem expDat_before1 (c : Dev nD) (t : Fin cfg1.N) (d) : (expDat V c).before 1 t d = expBlk V c 1 t :=
  ((expDat V c).before_in_eq_fetched 1 rfl (fun _ => rfl) (fun _ _ _ => rfl)
    (fun t => by rw [expDat_after1]; unfold Dat.blockOf expBlk; rw [expDat_A]; try rfl) t d).trans
    (by unfold Dat.fetched Dat.blockOf expBlk; rw [expDat_A]; try rfl)
theorem expDat_before2 (c : Dev nD) (t : Fin cfg1.N) (d) : (expDat V c).before 2 t d = expBlk V c 2 t :=
  ((expDat V c).before_in_eq_fetched 2 rfl (fun _ => rfl) (fun _ _ _ => rfl)
    (fun t => by rw [expDat_after2]; unfold Dat.blockOf expBlk; rw [expDat_A]; try rfl) t d).trans
    (by unfold Dat.fetched Dat.blockOf expBlk; rw [expDat_A]; try rfl)
theorem expDat_before3 (c : Dev nD) (t : Fin cfg1.N) (d) : (expDat V c).before 3 t d = expBlk V c 3 t :=
  ((expDat V c).before_in_eq_fetched 3 rfl (fun _ => rfl) (fun _ _ _ => rfl)
    (fun t => by rw [expDat_after3]; unfold Dat.blockOf expBlk; rw [expDat_A]; try rfl) t d).trans
    (by unfold Dat.fetched Dat.blockOf expBlk; rw [expDat_A]; try rfl)
theorem expDat_before4 (c : Dev nD) (t : Fin cfg1.N) (d) : (expDat V c).before 4 t d = expBlk V c 4 t :=
  ((expDat V c).before_in_eq_fetched 4 rfl (fun _ => rfl) (fun _ _ _ => rfl)
    (fun t => by rw [expDat_after4]; unfold Dat.blockOf expBlk; rw [expDat_A]; try rfl) t d).trans
    (by unfold Dat.fetched Dat.blockOf expBlk; rw [expDat_A]; try rfl)
theorem expDat_before5 (c : Dev nD) (t : Fin cfg1.N) (d) : (expDat V c).before 5 t d = expBlk V c 5 t :=
  ((expDat V c).before_in_eq_fetched 5 rfl (fun _ => rfl) (fun _ _ _ => rfl)
    (fun t => by rw [expDat_after5]; unfold Dat.blockOf expBlk; rw [expDat_A]; try rfl) t d).trans
    (by unfold Dat.fetched Dat.blockOf expBlk; rw [expDat_A]; try rfl)

/-- The body stores into the output's buffer at every point. -/
theorem busy6 (i : grid1.Coords) : cfg1.idle 6 i = false := by
  show (!(k1_cond1 i == 1#1) && !(k1_cond2 i == 1#1)) = false
  by_cases h0 : (i 0).val = 0
  · rw [(first_iff i).mpr h0]; rfl
  · rw [(later_iff i).mpr h0]; simp

/-- From the buffer as the body finds it at point `t`, the walk leaves the output after `t + 1` points. -/
theorem walk_before6 (c : Dev nD) (t : Fin cfg1.N) (d) :
    (expOperands V c t).walk (grid1.coords t 0).val ((expDat V c).before 6 t d) 8 = accum V c (t.val + 1) := by
  rw [accum_succ]
  by_cases h0 : t.val = 0
  · rw [show (grid1.coords t 0).val = 0 from (coord1 t).trans h0]
    exact Operands.walk_first _ _ _
  · have hlt : t.val < 8 := Nat.lt_of_lt_of_le t.isLt (le_of_eq N_1)
    have hb := (expDat V c).before_out_kept 6 rfl t h0
      (Bool.eq_false_iff.mpr fun h => by have := (flush1_6 _).mp h; dsimp only at this; omega) busy6 (fun _ _ => rfl) d
    rw [hb, expDat_after6]
    congr 2
    dsimp only; omega

/-- What the body holds of the pipeline when called at point `t`, -/
def expPre (c : Dev nD) (t : Fin cfg1.N) : sProp 𝕄 :=
  iprop((expDat V c).Φ t.castSucc ∗ (expDat V c).owesAt () t.castSucc
    ∗ (∃ d, owns (c : Thread nD τ) (st1_0 t) fullShare ((expDat V c).before 0 t d))
    ∗ (∃ d, owns (c : Thread nD τ) (st1_1 t) fullShare ((expDat V c).before 1 t d))
    ∗ (∃ d, owns (c : Thread nD τ) (st1_2 t) fullShare ((expDat V c).before 2 t d))
    ∗ (∃ d, owns (c : Thread nD τ) (st1_3 t) fullShare ((expDat V c).before 3 t d))
    ∗ (∃ d, owns (c : Thread nD τ) (st1_4 t) fullShare ((expDat V c).before 4 t d))
    ∗ (∃ d, owns (c : Thread nD τ) (st1_5 t) fullShare ((expDat V c).before 5 t d))
    ∗ (∃ d, owns (c : Thread nD τ) (st1_6 t) fullShare ((expDat V c).before 6 t d)))

/-- and what it holds when it returns. -/
def expPost (c : Dev nD) (t : Fin cfg1.N) : sProp 𝕄 :=
  iprop((expDat V c).Φ t.succ ∗ (expDat V c).owesAt () t.succ
    ∗ owns (c : Thread nD τ) (st1_0 t) fullShare ((expDat V c).after 0 t)
    ∗ owns (c : Thread nD τ) (st1_1 t) fullShare ((expDat V c).after 1 t)
    ∗ owns (c : Thread nD τ) (st1_2 t) fullShare ((expDat V c).after 2 t)
    ∗ owns (c : Thread nD τ) (st1_3 t) fullShare ((expDat V c).after 3 t)
    ∗ owns (c : Thread nD τ) (st1_4 t) fullShare ((expDat V c).after 4 t)
    ∗ owns (c : Thread nD τ) (st1_5 t) fullShare ((expDat V c).after 5 t)
    ∗ owns (c : Thread nD τ) (st1_6 t) fullShare ((expDat V c).after 6 t))

theorem expert_at (c : Dev nD) (t : Fin cfg1.N) :
    expPre V c t ⊢ wp frame (wpE (defs₀ (F := F)) Variants.none c none) Set.univ (bodyAt1 t) (fun _ => expPost V c t) := by
  unfold expPre expPost bodyAt1
  simp only [expDat_before0, expDat_before1, expDat_before2, expDat_before3, expDat_before4, expDat_before5]
  rw [show (expDat V c).Φ t.succ = (expDat V c).Φ t.castSucc from rfl,
    show (expDat V c).owesAt () t.succ = (expDat V c).owesAt () t.castSucc from rfl,
    expDat_after0, expDat_after1, expDat_after2, expDat_after3, expDat_after4, expDat_after5, expDat_after6]
  iintro ⟨HΦ, HO, ⟨%d0, B0⟩, ⟨%d1, B1⟩, ⟨%d2, B2⟩, ⟨%d3, B3⟩, ⟨%d4, B4⟩, ⟨%d5, B5⟩, ⟨%d6, B6⟩⟩
  rw [← walk_before6 V c t d6]
  iapply (expert_triple c Set.univ (grid1.coords t) _ _ _ _ _ _ _ _ _ _ _ _ _ _ ((expDat V c).before 6 t d6) (expOperands V c t) _)
  isplitl [B0 B1 B2 B3 B4 B5 B6]
  · isplitl [B0]; · iexact B0
    isplitl [B1]; · iexact B1
    isplitl [B2]; · iexact B2
    isplitl [B3]; · iexact B3
    isplitl [B4]; · iexact B4
    isplitl [B5]; · iexact B5
    iexact B6
  iintro HB
  isplitl [HΦ]; · iexact HΦ
  isplitl [HO]; · iexact HO
  iexact HB

/-- The pipeline's obligation on the body, at every grid point. -/
theorem expert_obligation (c : Dev nD) : BodyObligation (expDat (F := F) V c) (defs₀ (F := F)) Variants.none () Set.univ := fun t => by
  rw [bigSep_W1, bigSep_W1,
    show defs₀ (F := F) .tc cfg1.body (cfg1.bodyArgs t (cfg1.slots t)) = bodyAt1 t from by unfold defs₀; rw [Defs.onTc_tc]]
  rw [show cfg1.idle 6 (cfg1.grid.coords t) = false from busy6 _]
  refine triple_restated (expert_at V c t) rfl .rfl fun _ => ?_
  dsimp only
  exact .rfl

end Region

end Cert.KernelIdeal.Moe

end
-- ==== Proof.KernelIdeal.Run.lean ====
/-
  The whole kernel: the host's reshapes and roundings, the routing call, two more reshapes, the expert call and the last
  reshape, run from any memory. Every execution ends with the arguments as launched, every semaphore at zero and the result
  array at the contents named here.
-/
module

public import proofs.«01_k».proof.Proof.Gen.KernelIdeal.Regions
public import proofs.«01_k».proof.Proof.KernelIdeal.Gate
public import proofs.«01_k».proof.Proof.KernelIdeal.ExpertCall
public import Idealize.ShloMosaic.Lib.Pipeline.RegionsLoop
public import Idealize.ShloMosaic.Lib.Ring

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two calls leave -/

/-- A valuation's buffers, read at the TensorCore's references. -/
abbrev atRefs (W : Dev nD → Valuation τ sig (Elt F)) : (c : Dev nD) → (b : Ref sig .tc) → Buf (Elt F) ((c : Thread nD τ).loc b) :=
  fun c b => W c b

/-- The table of routing weights the first call leaves, -/
def gateLeft (c : Dev nD) : Buf (Elt F) ((c : Thread nD τ).loc main_v4) := (gateDat (atRefs (V1 m)) c).arrAt 2 cfg0.N
/-- the buffers' contents with that table in place, -/
def afterGate : Outs (F := F) := fun _ r c => Function.update (V1 m c) (Proc.devRef .tc main_v4) (gateLeft m c) r
/-- and the output the second call leaves. -/
def expLeft (c : Dev nD) : Buf (Elt F) ((c : Thread nD τ).loc main_v7) := (expDat (atRefs (V3 m (afterGate m))) c).arrAt 6 cfg1.N
/-- The two calls' results together. -/
def left : Outs (F := F) := fun _ r c =>
  Function.update (Function.update (V1 m c) (Proc.devRef .tc main_v4) (gateLeft m c)) (Proc.devRef .tc main_v7) (expLeft m c) r

theorem left_gate (c : Dev nD) : left m 2 main_v4 c = gateLeft m c := by
  unfold left
  rw [Function.update_of_ne (StableHlo.devRef_ne_of_ne (by decide)), Function.update_self]
theorem afterGate_gate (c : Dev nD) : afterGate m 2 main_v4 c = gateLeft m c := by
  unfold afterGate
  rw [Function.update_self]
theorem V2_left (c : Dev nD) : V2 m (left m) c = V2 m (afterGate m) c := by
  unfold V2
  rw [left_gate, afterGate_gate]
theorem V3_left : V3 m (left m) = V3 m (afterGate m) := by
  funext c
  unfold V3
  rw [V2_left]
theorem left_exp (c : Dev nD) : left m 4 main_v7 c = (expDat (atRefs (V3 m (left m))) c).arrAt 6 cfg1.N := by
  rw [V3_left]
  unfold left
  rw [Function.update_self]
  rfl

/-! ## Each call's arrays before and after -/

/-- After the routing call its arrays hold what the pipeline leaves … -/
theorem gate_arrays (c : Dev nD) (w : Fin cfg0.W) :
    (gateDat (atRefs (V1 m)) c).arrAt w cfg0.N = atRefs (V2 m (left m)) c (Pipeline.arrRef spec0 w) := by
  have hin : ∀ w : Fin cfg0.W, w ≠ 2 → (cfg0.win w).isOut = false ∧ Pipeline.arrRef spec0 w ∉ ([main_v4] : List (Ref sig .tc)) := by decide
  by_cases hw : w = 2
  · subst hw
    refine Eq.trans (left_gate m c).symm ?_
    exact (Function.update_self (β := fun b : DevRef τ sig => Buf (Elt F) (c, b)) _ _ _).symm
  · exact ((gateDat (atRefs (V1 m)) c).arrAt_in w (hin w hw).1 _).trans
      ((gateDat_A (atRefs (V1 m)) c w).trans (V2_of m (left m) c _ (hin w hw).2).symm)

/-- … and every other buffer what it held. -/
theorem gate_others (c : Dev nD) (b : Ref sig .tc) (hb : b ∉ Finset.univ.image (Pipeline.arrRef spec0)) :
    atRefs (V2 m (left m)) c b = atRefs (V1 m) c b :=
  V2_of m (left m) c b fun h => hb (by rw [List.mem_singleton.mp h]; exact Finset.mem_image.mpr ⟨2, Finset.mem_univ _, rfl⟩)

/-- The same of the expert call. -/
theorem exp_arrays (c : Dev nD) (w : Fin cfg1.W) :
    (expDat (atRefs (V3 m (left m))) c).arrAt w cfg1.N = atRefs (V4 m (left m)) c (Pipeline.arrRef spec1 w) := by
  have hin : ∀ w : Fin cfg1.W, w ≠ 6 → (cfg1.win w).isOut = false ∧ Pipeline.arrRef spec1 w ∉ ([main_v7] : List (Ref sig .tc)) := by decide
  by_cases hw : w = 6
  · subst hw
    refine Eq.trans (left_exp m c).symm ?_
    exact (Function.update_self (β := fun b : DevRef τ sig => Buf (Elt F) (c, b)) _ _ _).symm
  · exact ((expDat (atRefs (V3 m (left m))) c).arrAt_in w (hin w hw).1 _).trans
      ((expDat_A (atRefs (V3 m (left m))) c w).trans (V4_of m (left m) c _ (hin w hw).2).symm)

theorem exp_others (c : Dev nD) (b : Ref sig .tc) (hb : b ∉ Finset.univ.image (Pipeline.arrRef spec1)) :
    atRefs (V4 m (left m)) c b = atRefs (V3 m (left m)) c b :=
  V4_of m (left m) c b fun h => hb (by rw [List.mem_singleton.mp h]; exact Finset.mem_image.mpr ⟨6, Finset.mem_univ _, rfl⟩)

/-! ## The launch -/

/-- Both calls' proof data. -/
def pdats : (p : Fin 2) → (c : Dev nD) → Dat τ (Elt F) Unit ℕ (UR sig nD τ) ℕ (Pipeline.pin (pcfgs (F := F)) adm p) c
  | ⟨0, _⟩ => fun c => gateDat (atRefs (V1 m)) c
  | ⟨1, _⟩ => fun c => expDat (atRefs (V3 m (left m))) c

abbrev vars₀ : Variants := Variants.none
abbrev lvls : GSem nD τ sig → Finset Unit := fun _ => ∅
abbrev lvl : GSem nD τ sig → Unit → ℕ := fun _ _ => 0

/-- What rides beside the buffers: the generator register at some state, and the core owing nothing. -/
abbrev Beside (c : Dev nD) : sProp 𝕄 := iprop((∃ r, prngReg c r) ∗ ∃ W, owes (c : Thread nD τ) (0 : CellTallies nD τ sig Unit) W)

set_option backward.isDefEq.respectTransparency.types false in
/-- The routing call as a segment. -/
def gateSeg : Pipeline.RegionSeg (pcfgs (F := F)) adm (pdats m) () defs₀ vars₀ lvls lvl 0 where
  win := launch0.win.to₀
  block_pos := launch0.block_pos
  stage_whole := launch0.stage_whole
  K := PEmpty
  osem k := k.elim
  ho := Pipeline.OwnSemFacts.none _
  hbody c := (gate_obligation (atRefs (V1 m)) c).loose
  hwaits := Pipeline.hwaits_of_owed_zero _ _ _ _ lvls lvl 0 fun _ _ => rfl
  pre c := iprop(StableHlo.held (c : Thread nD τ) (Pipeline.ucRefs τ sig) (V1 m c) ∗ Beside c)
  post c := iprop(StableHlo.held (c : Thread nD τ) (Pipeline.ucRefs τ sig) (V2 m (left m) c) ∗ Beside c)
  X c := iprop(∃ r, prngReg c r)
  Y c := iprop(∃ r, prngReg c r)
  Z c := Pipeline.unscopedRest (Ix := Unit) (Name := ℕ) (U := UR sig nD τ) (Lvl := ℕ) spec0 c (atRefs (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V1 m) c) (gateDat_A (atRefs (V1 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (V1 m) c) (atRefs (V2 m (left m)) c) ((pdats m 0 c).arrAt · cfg0.N) (gate_arrays m c) (gate_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The expert call as a segment. -/
def expSeg : Pipeline.RegionSeg (pcfgs (F := F)) adm (pdats m) () defs₀ vars₀ lvls lvl 1 where
  win := launch1.win.to₀
  block_pos := launch1.block_pos
  stage_whole := launch1.stage_whole
  K := PEmpty
  osem k := k.elim
  ho := Pipeline.OwnSemFacts.none _
  hbody c := (expert_obligation (atRefs (V3 m (left m))) c).loose
  hwaits := Pipeline.hwaits_of_owed_zero _ _ _ _ lvls lvl 1 fun _ _ => rfl
  pre c := iprop(StableHlo.held (c : Thread nD τ) (Pipeline.ucRefs τ sig) (V3 m (left m) c) ∗ Beside c)
  post c := iprop(StableHlo.held (c : Thread nD τ) (Pipeline.ucRefs τ sig) (V4 m (left m) c) ∗ Beside c)
  X c := iprop(∃ r, prngReg c r)
  Y c := iprop(∃ r, prngReg c r)
  Z c := Pipeline.unscopedRest (Ix := Unit) (Name := ℕ) (U := UR sig nD τ) (Lvl := ℕ) spec1 c (atRefs (V3 m (left m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (V3 m (left m)) c) (expDat_A (atRefs (V3 m (left m))) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (V3 m (left m)) c) (atRefs (V4 m (left m)) c) ((pdats m 1 c).arrAt · cfg1.N) (exp_arrays m c) (exp_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The kernel's segments in order. -/
abbrev kernelSegs (c : Dev nD) : List (Pipeline.Seg (pcfgs (F := F)) adm (pdats m) () defs₀ vars₀ lvls lvl) :=
  segs m (left m) vars₀ lvls lvl (fun _ => Beside) () (pdats m) (gateSeg m) (expSeg m) c

theorem main_run (c : Dev nD) : main (F := F) c = Pipeline.Seg.run (kernelSegs m c) := (main_chain c).trans (by chain_rfl)

set_option backward.isDefEq.respectTransparency.types false in
/-- Every execution of the kernel ends with every unscoped buffer at the last valuation and every semaphore at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = V5 m (left m) c b) ∧ r.2.sem = fun _ => 0) :=
  Pipeline.θ_run_regions_kit_dev_sems (pcfgs (F := F)) adm (pdats m) () cellOf_inj emb₁ defs₀ vars₀ lvls lvl m ρ main (kernelSegs m)
    (fun c Q => by rw [main_run m c])
    (fun c => by simp only [kernelSegs, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Beside c))
    (Tₙ := fun c => iprop(StableHlo.held (c : Thread nD τ) (Pipeline.ucRefs τ sig) (V5 m (left m) c) ∗ ∃ r, prngReg c r))
    (hch := fun c => ⟨.rfl, .rfl, .rfl, .rfl, .rfl, by
      show iprop(StableHlo.held (c : Thread nD τ) (Pipeline.ucRefs τ sig) (V5 m (left m) c) ∗ Beside c) ⊢ _
      iintro ⟨Hh, Hp, HO⟩
      isplitl [Hh Hp]
      · isplitl [Hh]; · iexact Hh
        iexact Hp
      iexact HO⟩)
    (hinit := by
      refine Pipeline.initEach lvls lvl fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V5 m (left m) c b)
    (hfin := fun c s' => by
      iintro ⟨⟨Hh, -⟩, HSI⟩
      unfold StableHlo.held
      imodintro
      iapply (pointsTo_read_all (Pipeline.ucRefs τ sig) (fun b => (((c : Thread nD τ)).1, b)) (V5 m (left m) c) s')
      isplitl [Hh] <;> iassumption)
    (hQ := fun s h hz => ⟨h, funext fun g => hz g (.inr (regions_no_unscoped g.2))⟩)

/-- The references the claims read are among them. -/
theorem ref_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The kernel's run: the result array at its value, the arguments as launched, the semaphores at zero. -/
theorem run : θ_run defs (onTc (τ := τ) (main (F := F))) ⟨m, fun _ => 0, ρ⟩ (fun r => (∀ c : Dev nD,
      r.2.mem ((c.tc : Thread nD τ).loc main_v8) = V5 m (left m) c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨h.1 c _ (ref_held main_v8 (by decide)),
     (h.1 c _ (ref_held main_arg0 (by decide))).trans (V5_main_arg0 m (left m) c),
     (h.1 c _ (ref_held main_arg1 (by decide))).trans (V5_main_arg1 m (left m) c),
     (h.1 c _ (ref_held main_arg2 (by decide))).trans (V5_main_arg2 m (left m) c),
     (h.1 c _ (ref_held main_arg3 (by decide))).trans (V5_main_arg3 m (left m) c),
     (h.1 c _ (ref_held main_arg4 (by decide))).trans (V5_main_arg4 m (left m) c),
     (h.1 c _ (ref_held main_arg5 (by decide))).trans (V5_main_arg5 m (left m) c)⟩, h.2⟩) (run_all m ρ)

end Cert.KernelIdeal.Moe

end
-- ==== Proof.Frames.lean ====
/-
  Every program ends with its arguments as launched and every semaphore counter at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import Idealize.ShloMosaic.Lib.Quiescent

@[expose] public section

noncomputable section

namespace Cert.Proof

open Idealize.ShloMosaic Idealize.ShloMosaic.TcCoe Idealize.SL.Sem

/-- The shapes the finiteness test names fit its operations. -/
theorem pre_facts : Cert.Pre_finite.Facts where
  bcast_S_S2x2048x768 := by decide
  reducesTo_S2x2048x768_S_d0_1_2 := by decide
  h_S_ := by decide
  bcast_S_S8x768 := by decide
  reducesTo_S8x768_S_d0_1 := by decide

theorem kernel_frame : quiescent_Kernel (hKernel := Cert.Kernel.Gen.facts) := fun m g _ =>
  (θ_run _ _ _).mono (fun _ h => ⟨fun c => (h.1 c).2, h.2⟩) (Cert.Kernel.Moe.run m g)

theorem kernelIdeal_frame : quiescent_KernelIdeal (hKernelIdeal := Cert.KernelIdeal.Gen.facts) := fun m g _ =>
  (θ_run _ _ _).mono (fun _ h => ⟨fun c => (h.1 c).2, h.2⟩) (Cert.KernelIdeal.Moe.run m g)

/-- The reference program has no semaphores at all. -/
theorem reference_frame : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

end Cert.Proof
-- ==== Proof.Maths.TopTwo.lean ====
/-
  The two largest of a row of numbers, as positions: the ranking puts a larger number first and, among equal numbers, the
  lower position. Two ways to find them are read here: a stable sort in decreasing order, and twice the maximum, each time with
  the least position that holds it.
-/
module

public import Idealize.ShloMosaic.Lib.SortFacts
public import Idealize.ShloMosaic.PureOps.Ideal
public import Idealize.ShloMosaic.PureOps.Reduce

@[expose] public section

namespace Cert.Maths

open Idealize.ShloMosaic

variable {n : ℕ} (l : Fin n → EReal)

/-- Position `i` ranks before position `j`. -/
def Beats (i j : Fin n) : Prop := l j < l i ∨ (l i = l j ∧ i < j)

variable {l} in
theorem Beats.asymm {i j : Fin n} (h : Beats l i j) : ¬ Beats l j i := by
  rintro (h' | ⟨h', k'⟩) <;> rcases h with h | ⟨h, k⟩
  · exact lt_asymm h h'
  · rw [h] at h'; exact lt_irrefl _ h'
  · rw [h'] at h; exact lt_irrefl _ h
  · exact lt_asymm k k'

theorem beats_total {i j : Fin n} (h : i ≠ j) : Beats l i j ∨ Beats l j i := by
  unfold Beats
  rcases lt_trichotomy (l i) (l j) with a | a | a
  · exact .inr (.inl a)
  · rcases lt_or_gt_of_ne h with k | k
    · exact .inl (.inr ⟨a, k⟩)
    · exact .inr (.inr ⟨a.symm, k⟩)
  · exact .inl (.inl a)

variable {l} in
theorem Beats.trans {i j k : Fin n} (h : Beats l i j) (h' : Beats l j k) : Beats l i k := by
  rcases h with h | ⟨h, p⟩ <;> rcases h' with h' | ⟨h', p'⟩
  · exact .inl (lt_trans h' h)
  · exact .inl (h' ▸ h)
  · exact .inl (h ▸ h')
  · exact .inr ⟨h.trans h', lt_trans p p'⟩

/-- `a` and `b` are the first two positions of the ranking. -/
structure TopTwo (a b : Fin n) : Prop where
  first : ∀ j, j ≠ a → Beats l a j
  ne : b ≠ a
  second : ∀ j, j ≠ a → j ≠ b → Beats l b j

variable {l} in
/-- A row has one first pair. -/
theorem TopTwo.unique {a b a' b' : Fin n} (h : TopTwo l a b) (h' : TopTwo l a' b') : a' = a ∧ b' = b := by
  have ha : a' = a := by
    by_contra hn
    exact (h.first _ hn).asymm (h'.first _ (Ne.symm hn))
  subst ha
  refine ⟨rfl, ?_⟩
  by_contra hn
  exact (h.second _ h'.ne hn).asymm (h'.second _ h.ne (Ne.symm hn))

/-! ## By a stable sort -/

/-- Sorting an increasing list asks the order only of later positions against earlier ones. -/
theorem stableSort_congr_pairwise {ι : Type} (R R' : ι → ι → Bool) (s : List ι) (h : s.Pairwise fun a b => R b a = R' b a) :
    stableSort R s = stableSort R' s := by
  induction s with
  | nil => rfl
  | cons a s ih =>
    rw [List.pairwise_cons] at h
    unfold stableSort
    rw [ih h.2]
    exact insertBefore_congr R R' a _ fun b hb => h.1 b ((perm_stableSort R' s).mem_iff.mp hb)

open Classical in
/-- A stable sort in decreasing order lists the positions in the ranking's order. -/
theorem sortedFrom_beats (before : Fin n → Fin n → Bool) (hb : ∀ i j, before i j = true ↔ l j < l i) {p q : Fin n} (hpq : p < q) :
    Beats l (sortedFrom before p) (sortedFrom before q) := by
  have hs : sortedFrom before = sortedFrom fun i j => decide (Beats l i j) := by
    funext k
    unfold sortedFrom
    have e : sortPositions n before = sortPositions n fun i j => decide (Beats l i j) := by
      unfold sortPositions
      refine stableSort_congr_pairwise _ _ _ ((List.pairwise_lt_finRange n).imp ?_)
      intro a b hab
      rw [Bool.eq_iff_iff, hb, decide_eq_true_iff]
      unfold Beats
      exact ⟨.inl, fun h => h.resolve_right fun h' => lt_asymm h'.2 hab⟩
    rw [List.get_of_eq e]
    rfl
  have hn := sortedFrom_noInversion (fun i j => decide (Beats l i j)) (fun i j => decide (Beats l i j))
    (fun i j h => by simpa using (of_decide_eq_true h).asymm) (fun _ _ h => h)
    (fun i j k hij hjk => by
      simp only [decide_eq_false_iff_not] at hij hjk ⊢
      intro hik
      by_cases e : i = j
      · subst e; exact hjk hik
      by_cases e' : j = k
      · subst e'; exact hij hik
      exact hij (hik.trans ((beats_total l e').resolve_left hjk)))
    p q hpq
  rw [hs]
  refine (beats_total l fun e => ?_).resolve_right (by simpa using hn)
  exact absurd (sortedFrom_injective _ e) hpq.ne

/-- Its first two entries are the first pair. -/
theorem topTwo_sortedFrom (h2 : 2 ≤ n) (before : Fin n → Fin n → Bool) (hb : ∀ i j, before i j = true ↔ l j < l i) :
    TopTwo l (sortedFrom before ⟨0, by omega⟩) (sortedFrom before ⟨1, by omega⟩) := by
  refine ⟨fun j hj => ?_, fun e => ?_, fun j hj hj' => ?_⟩
  · obtain ⟨k, rfl⟩ := sortedFrom_surjective before j
    refine sortedFrom_beats l before hb (Fin.lt_def.mpr (Nat.pos_of_ne_zero fun e => hj ?_))
    exact congrArg _ (Fin.ext e)
  · exact absurd (congrArg Fin.val (sortedFrom_injective before e)) (by simp)
  · obtain ⟨k, rfl⟩ := sortedFrom_surjective before j
    refine sortedFrom_beats l before hb (Fin.lt_def.mpr ?_)
    have h0 : k.val ≠ 0 := fun e => hj (congrArg _ (Fin.ext e))
    have h1 : k.val ≠ 1 := fun e => hj' (congrArg _ (Fin.ext e))
    show 1 < k.val
    omega

/-! ## By two maxima -/

/-- The least of 32-bit words read as signed numbers, in any order of comparison. -/
theorem toInt_fold_minsi {ι : Type} (s : Finset ι) (b : BitVec 32) (f : ι → BitVec 32) :
    (s.fold IntOp.minsi b f).toInt = s.fold min b.toInt fun k => (f k).toInt := by
  refine (Finset.fold_hom (op := IntOp.minsi) (op' := min) (m := BitVec.toInt) fun x y => ?_).symm
  unfold IntOp.minsi
  rcases lt_or_ge x.toInt y.toInt with h | h
  · rw [if_pos (by simpa [BitVec.slt] using h), min_eq_left h.le]
  · rw [if_neg (by simpa [BitVec.slt] using h), min_eq_right h]

/-- The maximum of a row of eight and the least position that holds it. -/
theorem maximum_at (l : Fin 8 → EReal) :
    ∃ a : Fin 8, Finset.univ.fold max ⊥ l = l a ∧ (∀ j, j ≠ a → Beats l a j) ∧
      Finset.univ.fold IntOp.minsi 2147483647#32 (fun k : Fin 8 => if l k = l a then BitVec.ofNat 32 k.val else 8#32) = BitVec.ofNat 32 a.val := by
  obtain ⟨a, ha, hmin⟩ := WellFounded.has_min (wellFounded_lt (α := Fin 8)) {a | ∀ j, l j ≤ l a} (Finite.exists_max l)
  have hlt : ∀ j, j < a → l j < l a := fun j hj => lt_of_le_of_ne (ha j) fun e => hmin j (fun k => (ha k).trans e.ge) hj
  have hint : ∀ k : Fin 8, (BitVec.ofNat 32 k.val).toInt = k.val := by decide
  refine ⟨a, le_antisymm (Finset.fold_max_le _ |>.mpr ⟨bot_le, fun j _ => ha j⟩) (Finset.le_fold_max _ |>.mpr (.inr ⟨a, Finset.mem_univ _, le_rfl⟩)),
    fun j hj => ?_, BitVec.eq_of_toInt_eq ?_⟩
  · rcases lt_or_gt_of_ne hj with h | h
    · exact .inl (hlt j h)
    · rcases (ha j).lt_or_eq with e | e
      · exact .inl e
      · exact .inr ⟨e.symm, h⟩
  · rw [toInt_fold_minsi, hint]
    refine le_antisymm (Finset.fold_min_le _ |>.mpr (.inr ⟨a, Finset.mem_univ _, ?_⟩)) (Finset.le_fold_min _ |>.mpr ⟨?_, fun j _ => ?_⟩)
    · rw [if_pos rfl, hint]
    · have := a.isLt
      show (a.val : ℤ) ≤ 2147483647
      omega
    · have := a.isLt
      split
      · next e =>
        rw [hint]
        have : ¬ j < a := fun hj => absurd e (hlt j hj).ne
        exact_mod_cast not_lt.mp this
      · show (a.val : ℤ) ≤ 8
        omega

/-- A row with one position lowered to −∞. -/
noncomputable def without (l : Fin 8 → EReal) (a k : Fin 8) : EReal := if k = a then ⊥ else l k

/-- The maximum and, with its position lowered, the next one: the first pair, when no number of the row is −∞. -/
theorem topTwo_maxima (l : Fin 8 → EReal) (hl : ∀ k, l k ≠ ⊥) {a b : Fin 8} (ha : ∀ j, j ≠ a → Beats l a j)
    (hb : ∀ j, j ≠ b → Beats (without l a) b j) : TopTwo l a b := by
  have hba : b ≠ a := by
    rintro rfl
    obtain ⟨j, hj⟩ := exists_ne b
    have := hb j hj
    unfold Beats without at this
    rw [if_neg hj, if_pos rfl] at this
    rcases this with h | ⟨h, -⟩
    · exact not_lt_bot h
    · exact hl j h.symm
  refine ⟨ha, hba, fun j hja hjb => ?_⟩
  have := hb j hjb
  unfold Beats without at this
  rwa [if_neg hja, if_neg hba] at this

end Cert.Maths
-- ==== Proof.Maths.Layer.lean ====
/-
  One token's way through the layer, in plain functions of numbers: the gate's scores of the experts, the routing weights of the
  two experts it is sent to, and what an expert makes of the token.
-/
module

public import proofs.«01_k».proof.Proof.Maths.TopTwo
public import Idealize.ShloMosaic.PureOps.Ideal.Laws

@[expose] public section

noncomputable section

namespace Cert.Maths

open Idealize.ShloMosaic

/-- The score of each expert: the token against the expert's gate row. -/
def scores (x : Fin 768 → EReal) (g : Fin 8 → Fin 768 → EReal) (e : Fin 8) : EReal := ∑ k, x k * g e k

/-- The weight of expert `e` when `a` and `b` score best and second: the softmax of the two scores, the best one's
    exponential taken as one. -/
def weight (l : Fin 8 → EReal) (a b e : Fin 8) : EReal :=
  (if e = a then Ideal.div 1 (1 + Ideal.exp (l b - l a)) else 0)
    + (if e = b then Ideal.div (Ideal.exp (l b - l a)) (1 + Ideal.exp (l b - l a)) else 0)

/-- The error function's activation, by the 32-bit constants the programs hold for one half and for one over the root of two. -/
def gelu (h : EReal) : EReal := Ideal.ofBits .f32 0x3F000000#32 * h * (1 + Ideal.erf (h * Ideal.ofBits .f32 0x3F3504F3#32))

/-- One expert's two layers on a token. -/
def expert (x : Fin 768 → EReal) (w1 : Fin 3072 → Fin 768 → EReal) (b1 : Fin 3072 → EReal) (w2 : Fin 768 → Fin 3072 → EReal)
    (b2 : Fin 768 → EReal) (d : Fin 768) : EReal :=
  ∑ j, gelu (∑ k, x k * w1 j k + b1 j) * w2 d j + b2 d

/-- Experts of equal entries make the same. -/
theorem expert_congr {x x' : Fin 768 → EReal} {w1 w1' : Fin 3072 → Fin 768 → EReal} {b1 b1' : Fin 3072 → EReal}
    {w2 w2' : Fin 768 → Fin 3072 → EReal} {b2 b2' : Fin 768 → EReal} (hx : ∀ k, x k = x' k) (hw1 : ∀ j k, w1 j k = w1' j k)
    (hb1 : ∀ j, b1 j = b1' j) (hw2 : ∀ d j, w2 d j = w2' d j) (hb2 : ∀ d, b2 d = b2' d) (d : Fin 768) :
    expert x w1 b1 w2 b2 d = expert x' w1' b1' w2' b2' d := by
  simp only [expert, hx, hw1, hb1, hw2, hb2]

/-- A token's result when `a` and `b` are its two best experts and `y e` is expert `e`'s output. -/
def mixed (l : Fin 8 → EReal) (y : Fin 8 → EReal) (a b : Fin 8) : EReal :=
  y a * Ideal.div 1 (1 + Ideal.exp (l b - l a)) + y b * Ideal.div (Ideal.exp (l b - l a)) (1 + Ideal.exp (l b - l a))

/-- Weighing all eight experts, only the two of the pair count. -/
theorem sum_weight (l : Fin 8 → EReal) {a b : Fin 8} (hab : b ≠ a) (y : Fin 8 → EReal) :
    ∑ e, weight l a b e * y e = mixed l y a b := by
  simp only [mul_comm (weight _ _ _ _)]
  rw [← Finset.add_sum_erase _ _ (Finset.mem_univ a), ← Finset.add_sum_erase _ _ (Finset.mem_erase.mpr ⟨hab, Finset.mem_univ b⟩),
    Finset.sum_eq_zero, add_zero]
  · unfold weight mixed
    rw [if_pos rfl, if_neg hab.symm, if_neg hab, if_pos rfl, add_zero, zero_add]
  · intro e he
    obtain ⟨h1, h2, -⟩ := Finset.mem_erase.mp he |>.imp_right Finset.mem_erase.mp
    unfold weight
    rw [if_neg h1, if_neg h2, add_zero, mul_zero]

/-- Halving with the complementary error function of the negated argument is the same activation. -/
theorem gelu_erfc (h : EReal) :
    Ideal.ofBits .f32 0x3F000000#32 * h * Ideal.erfc (-h * Ideal.ofBits .f32 0x3F3504F3#32) = gelu h := by
  rw [EReal.neg_mul, Ideal.erfc_neg]
  rfl

end Cert.Maths

end
-- ==== Proof.Finite.lean ====
/-
  What the finiteness test says of the two inputs it reads, and that a token's scores are then finite.
-/
module

public import proofs.«01_k».proof.Defs
public import proofs.«01_k».proof.Proof.Maths.Layer
public import Idealize.ShloMosaic.Lib.ReduceAll
public import Idealize.ShloMosaic.Lib.Pointwise

@[expose] public section

noncomputable section

namespace Cert.Maths

open Idealize.ShloMosaic

/-- A number that is neither infinity. -/
def Finite (x : EReal) : Prop := x ≠ ⊥ ∧ x ≠ ⊤

theorem Finite.add {x y : EReal} (hx : Finite x) (hy : Finite y) : Finite (x + y) := by
  lift x to ℝ using hx.symm
  lift y to ℝ using hy.symm
  exact ⟨EReal.coe_ne_bot (x + y), EReal.coe_ne_top (x + y)⟩

theorem Finite.mul {x y : EReal} (hx : Finite x) (hy : Finite y) : Finite (x * y) := by
  lift x to ℝ using hx.symm
  lift y to ℝ using hy.symm
  exact ⟨EReal.coe_ne_bot (x * y), EReal.coe_ne_top (x * y)⟩

/-- Scores of finite numbers are finite. -/
theorem scores_finite {x : Fin 768 → EReal} {g : Fin 8 → Fin 768 → EReal} (hx : ∀ k, Finite (x k)) (hg : ∀ e k, Finite (g e k)) (e : Fin 8) : Finite (scores x g e) :=
  Finset.sum_induction _ Finite (fun _ _ => Finite.add) ⟨EReal.zero_ne_bot, EReal.zero_ne_top⟩ fun k _ => (hx k).mul (hg e k)

theorem inf_eq : Ideal.ofBits FTy.f32 0x7F800000#32 = ⊤ := by simp [Ideal.ofBits, Ideal.ieee]

/-- A number whose absolute value compares below infinity. -/
theorem finite_of_cmp (x : EReal) (h : Ideal.cmp .olt (max x (-x)) (Ideal.ofBits FTy.f32 0x7F800000#32) = 1#1) : Finite x := by
  rw [inf_eq] at h
  refine ⟨fun e => ?_, fun e => ?_⟩ <;> subst e <;> simp [Ideal.cmp] at h

end Cert.Maths

namespace Cert.Proof

open Idealize.ShloMosaic Cert.Maths Cert.Pre_finite

/-- The test passes only where both inputs hold finite numbers alone. -/
theorem inputs_finite [Cert.Pre_finite.Facts] (x0 : FVec Ideal S2x2048x768 .f32) (x1 : FVec Ideal S8x768 .f32) (x2 : FVec Ideal S8x3072x768 .f32)
    (x3 : FVec Ideal S8x3072 .f32) (x4 : FVec Ideal S8x768x3072 .f32) (x5 : FVec Ideal S8x768 .f32)
    (h : Cert.Pre_finite.fn (F := Ideal) x0 x1 x2 x3 x4 x5 = fun _ => 1#1) : (∀ i, Finite (x0 i)) ∧ ∀ i, Finite (x1 i) := by
  have h0 := congrFun h ix0
  obtain ⟨ha, hb⟩ := IntOp.andi_eq_one.1 h0
  haveI : Subsingleton S_.Idx := ⟨fun a b => funext fun i => i.elim0⟩
  exact ⟨fun i => finite_of_cmp _ (Host.reduce_andi_all _ _ _ _ _ ha i), fun i => finite_of_cmp _ (Host.reduce_andi_all _ _ _ _ _ hb i)⟩

end Cert.Proof

end
-- ==== Proof.KernelIdeal.GateValue.lean ====
/-
  The routing table read entry by entry: in the row of a token, the weight of each expert, from the two experts that score best.
-/
module

public import proofs.«01_k».proof.Proof.KernelIdeal.Gate
public import proofs.«01_k».proof.Proof.Maths.Layer
public import Idealize.ShloMosaic.Lib.Pointwise

@[expose] public section

noncomputable section

namespace Cert.KernelIdeal.Moe

open Cert.KernelIdeal Cert.KernelIdeal.Gen Cert.Maths
open Idealize.ShloMosaic

/-- The pattern the kernel starts its maxima from is −∞. -/
theorem negInf_eq : Ideal.ofBits FTy.f32 4286578688#32 = ⊥ := by simp [Ideal.ofBits, Ideal.ieee]

section Rows

variable (x : FVec Ideal S2048x768 .f32) (g : FVec Ideal S8x768 .f32) (r : Fin 2048)

/-- The scores of row `r`'s token. -/
def rowScores : Fin 8 → EReal := scores (fun k => x (ix2 r k)) (fun e k => g (ix2 e k))

theorem pay2_at (e : Fin 8) : k0_pay2 (F := Ideal) x g (ix2 r e) = rowScores x g r e := by
  pointwise [k0_pay2]
  rfl

/-- The best score, -/
theorem pay3_at : k0_pay3 (F := Ideal) x g (ix2 r 0) = Finset.univ.fold max ⊥ (rowScores x g r) := by
  pointwise [k0_pay3]
  rw [negInf_eq, funext (pay2_at x g r)]

/-- the least expert that reaches it, -/
theorem pay4_at : k0_pay4 (F := Ideal) x g (ix2 r 0) = Finset.univ.fold IntOp.minsi 2147483647#32
    (fun k : Fin 8 => if rowScores x g r k = Finset.univ.fold max ⊥ (rowScores x g r) then BitVec.ofNat 32 k.val else 8#32) := by
  pointwise [k0_pay4]
  simp only [pay2_at, pay3_at]

/-- An expert's word against another's. -/
theorem cmpi_word (a e : Fin 8) : IntOp.cmpi .eq (BitVec.ofNat 32 e.val) (BitVec.ofNat 32 a.val) = if e = a then 1#1 else 0#1 := by
  revert a e; decide

theorem select_word {α : Type} (a e : Fin 8) (u v : α) :
    Scalar.select (IntOp.cmpi .eq (BitVec.ofNat 32 e.val) (BitVec.ofNat 32 a.val)) u v = if e = a then u else v := by
  rw [cmpi_word]
  split <;> rfl

/-- Row `r` of the routing table: `a` and `b` score best and second, and the entries are the weights they give. -/
theorem gateOf_at (hl : ∀ e, rowScores x g r e ≠ ⊥) :
    ∃ a b, TopTwo (rowScores x g r) a b ∧ ∀ e, gateOf (F := Ideal) x g (ix2 r e) = weight (rowScores x g r) a b e := by
  obtain ⟨a, hm, ha, hi⟩ := maximum_at (rowScores x g r)
  have h3 := (pay3_at x g r).trans hm
  have h4 : k0_pay4 (F := Ideal) x g (ix2 r 0) = BitVec.ofNat 32 a.val := by rw [pay4_at, hm, hi]
  have h5 : ∀ e, k0_pay5 (F := Ideal) x g (ix2 r e) = without (rowScores x g r) a e := fun e => by
    pointwise [k0_pay5]
    rw [h4, select_word, negInf_eq, pay2_at]
    rfl
  obtain ⟨b, hm', hb, hi'⟩ := maximum_at (without (rowScores x g r) a)
  have hT := topTwo_maxima _ hl ha hb
  have hwb : without (rowScores x g r) a b = rowScores x g r b := if_neg hT.ne
  have h6 : k0_pay6 (F := Ideal) x g (ix2 r 0) = rowScores x g r b := by
    pointwise [k0_pay6]
    rw [negInf_eq, funext h5, hm', hwb]
  have h10 : ∀ e : Fin 8, k0_pay10 (F := Ideal) x g (ix2 r e) = IntOp.cmpi .eq (BitVec.ofNat 32 e.val) (BitVec.ofNat 32 b.val) := fun e => by
    pointwise [k0_pay10]
    rw [h6, ← hwb, ← hi']
    simp only [h5]
  refine ⟨a, b, hT, fun e => ?_⟩
  pointwise [gateOf, k0_pay1, k0_pay9, k0_pay8, k0_pay7]
  rw [h10, h4, select_word, select_word, h6, h3]
  rfl

end Rows

end Cert.KernelIdeal.Moe

end
-- ==== Proof.KernelIdeal.ExpertValue.lean ====
/-
  The expert call's output read entry by entry: after the first `n` experts an entry holds the sum, over them, of the expert's
  own output for that token scaled by the token's routing weight.
-/
module

public import proofs.«01_k».proof.Proof.KernelIdeal.ExpertCall
public import proofs.«01_k».proof.Proof.Maths.Layer
public import Idealize.ShloMosaic.Lib.Pointwise

@[expose] public section

noncomputable section

namespace Cert.KernelIdeal.Moe

open Cert.KernelIdeal Cert.KernelIdeal.Gen Cert.Maths
open Idealize.ShloMosaic Idealize.ShloMosaic.TcCoe

/-! ## The body's arithmetic at an entry -/

/-- The expert's output rows. -/
theorem pay_rows_at (x : FVec Ideal S512x768 .bf16) (w1 : FVec Ideal S1x3072x768 .bf16) (b1 : FVec Ideal S1x1x3072 .f32)
    (w2 : FVec Ideal S1x768x3072 .bf16) (b2 : FVec Ideal S1x1x768 .f32) (r : Fin 512) (d : Fin 768) :
    k1_pay3 (F := Ideal) x w1 b1 w2 b2 (ix2 r d) = expert (fun k => x (ix2 r k)) (fun j k => w1 (ix3 0 j k)) (fun j => b1 (ix3 0 0 j))
      (fun d j => w2 (ix3 0 d j)) (fun d => b2 (ix3 0 0 d)) d := by
  pointwise [k1_pay3]
  rfl

theorem select_word8 (k e : Fin 8) (u v : EReal) :
    Scalar.select (IntOp.cmpi .eq (BitVec.ofNat 32 k.val) (BitVec.ofNat 32 e.val)) u v = if k = e then u else v := by
  have : IntOp.cmpi .eq (BitVec.ofNat 32 k.val) (BitVec.ofNat 32 e.val) = if k = e then 1#1 else 0#1 := by revert k e; decide
  rw [this]
  split <;> rfl

/-- The expert's column of the routing table. -/
theorem pay_col_at (e : Fin 8) (g : FVec Ideal S512x8 .f32) (r : Fin 512) :
    k1_pay4 (F := Ideal) (BitVec.ofNat 32 e.val) g (ix2 r 0) = g (ix2 r e) := by
  pointwise [k1_pay4]
  simp only [select_word8]
  rw [Finset.sum_ite_eq' Finset.univ e (fun k => g (ix2 r k)), if_pos (Finset.mem_univ e)]

/-- What expert 0 stores, -/
theorem pay_first_at (y : FVec Ideal S512x768 .f32) (q : FVec Ideal S512x1 .f32) (r : Fin 512) (d : Fin 768) :
    k1_pay1 (F := Ideal) y q (ix2 r d) = q (ix2 r 0) * y (ix2 r d) := by
  pointwise [k1_pay1]

/-- and what the others do. -/
theorem pay_later_at (y : FVec Ideal S512x768 .f32) (q : FVec Ideal S512x1 .f32) (o : FVec Ideal S512x768 .f32) (r : Fin 512) (d : Fin 768) :
    k1_pay2 (F := Ideal) y q o (ix2 r d) = o (ix2 r d) + q (ix2 r 0) * y (ix2 r d) := by
  pointwise [k1_pay2, k1_pay1]

/-! ## A grid point's output at an entry -/

/-- The expert's output for token row `n`. -/
def Operands.out (P : Operands Ideal) (n : Fin 4096) (d : Fin 768) : EReal :=
  expert (fun k => P.x (ix2 n k)) (fun j k => P.W1 (ix3 0 j k)) (fun j => P.b1 (ix3 0 0 j))
      (fun d j => P.W2 (ix3 0 d j)) (fun d => P.b2 (ix3 0 0 d)) d

theorem Operands.block_at (P : Operands Ideal) (e : Fin 8) (n : Fin 4096) (hk : n.val / 512 < 8) (old : Vec Ideal S512x768 .f32) (d : Fin 768) :
    P.block e.val (n.val / 512) hk old (ix2 ⟨n.val % 512, Nat.mod_lt _ (by decide)⟩ d)
      = (if e.val = 0 then 0 else old (ix2 ⟨n.val % 512, Nat.mod_lt _ (by decide)⟩ d)) + P.w (ix2 n e) * P.out n d := by
  have hr : P.rows (n.val / 512) hk (ix2 ⟨n.val % 512, Nat.mod_lt _ (by decide)⟩ d) = P.out n d := by
    unfold Operands.rows Operands.out
    rw [pay_rows_at]
    congr 1
    funext k
    unfold VecWindow.window
    refine congrArg P.x (funext fun a => Fin.ext ?_)
    match a with
    | ⟨0, _⟩ => show 512 * (n.val / 512) + 1 * (n.val % 512) = n.val; omega
    | ⟨1, _⟩ => show 0 + 1 * k.val = k.val; omega
  have hc : P.col e.val (n.val / 512) hk (ix2 ⟨n.val % 512, Nat.mod_lt _ (by decide)⟩ 0) = P.w (ix2 n e) := by
    unfold Operands.col
    rw [pay_col_at]
    unfold VecWindow.window
    refine congrArg P.w (funext fun a => Fin.ext ?_)
    match a with
    | ⟨0, _⟩ => show 512 * (n.val / 512) + 1 * (n.val % 512) = n.val; omega
    | ⟨1, _⟩ => show 0 + 1 * e.val = e.val; omega
  unfold Operands.block
  by_cases he : e.val = 0
  · rw [if_pos he, if_pos he, pay_first_at, hr, hc, zero_add]
  · rw [if_neg he, if_neg he, pay_later_at, hr, hc]

/-- The whole point at an entry. -/
theorem Operands.walk_at (P : Operands Ideal) (e : Fin 8) (g : Vec Ideal S4096x768 .f32) (n : Fin 4096) (d : Fin 768) :
    P.walk e.val g 8 (ix2 n d) = (if e.val = 0 then 0 else g (ix2 n d)) + P.w (ix2 n e) * P.out n d := by
  rw [Operands.walk_all]
  refine (Operands.block_at P e n (blk_lt (ix2 n d)) _ d).trans ?_
  have hg : VecWindow.window g (blkOff (n.val / 512)) S512x768.size (blkOff_rows (blk_lt (ix2 n d)))
      (ix2 ⟨n.val % 512, Nat.mod_lt _ (by decide)⟩ d) = g (ix2 n d) := by
    unfold VecWindow.window
    refine congrArg g (funext fun a => Fin.ext ?_)
    match a with
    | ⟨0, _⟩ => show 512 * (n.val / 512) + 1 * (n.val % 512) = n.val; omega
    | ⟨1, _⟩ => show 0 + 1 * d.val = d.val; omega
  rw [← hg]
  rfl

end Cert.KernelIdeal.Moe

end
-- ==== Proof.KernelIdeal.Arrays.lean ====
/-
  The arrays between the calls, read entry by entry: what the host's reshapes and roundings hold, from the arguments, and which
  part of which array each block of the two calls is.
-/
module

public import proofs.«01_k».proof.Proof.KernelIdeal.Run
public import proofs.«01_k».proof.Proof.KernelIdeal.GateValue
public import proofs.«01_k».proof.Proof.KernelIdeal.ExpertValue
public import Idealize.ShloMosaic.Lib.Pipeline.Value
public import Idealize.ShloMosaic.Lib.Pointwise

@[expose] public section

noncomputable section

namespace Cert.KernelIdeal.Moe

open Cert.KernelIdeal Cert.KernelIdeal.Gen Cert.Maths
open Idealize.ShloMosaic Idealize.ShloMosaic.TcCoe
open Idealize.ShloMosaic.Pipeline (Dat Cfg Window)

/-! ## What the host's lines between the calls hold -/

section Host

variable (m : (ℓ : Loc nD τ sig) → Buf (Elt Ideal) ℓ) (c : Dev nD)

/-- The row of token `s` of batch `b` among all the tokens. -/
def tokRow (b : Fin 2) (s : Fin 2048) : Fin 4096 := ⟨b.val * 2048 + s.val, by omega⟩

/-- Unrolling the tokens of both batches into rows, at an entry, -/
theorem rolled_at (y : FVec Ideal S4096x768 .f32) (b : Fin 2) (s : Fin 2048) (k : Fin 768) :
    shapeCast S2x2048x768 y shapeCasts_S4096x768_S2x2048x768 (ix3 b s k) = y (ix2 (tokRow b s) k) := by
  pointwise
  rfl
/-- and back. -/
theorem unrolled_at (x : FVec Ideal S2x2048x768 .f32) (b : Fin 2) (s : Fin 2048) (k : Fin 768) :
    shapeCast S4096x768 x shapeCasts_S2x2048x768_S4096x768 (ix2 (tokRow b s) k) = x (ix3 b s k) := by
  rw [← rolled_at (shapeCast S4096x768 x shapeCasts_S2x2048x768_S4096x768), shapeCast_shapeCast]

theorem V1_v0 (b : Fin 2) (s : Fin 2048) (k : Fin 768) : V1 m c main_v0 (ix2 (tokRow b s) k) = m ((c : Thread nD τ).loc main_arg0) (ix3 b s k) := by
  have h : V1 m c main_v0 = shapeCast S4096x768 (m ((c : Thread nD τ).loc main_arg0)) shapeCasts_S2x2048x768_S4096x768 := by
    show StableHlo.after hostOps0 (V0 m c) (Proc.devRef .tc main_v0) = _
    after_results
    rfl
  rw [h, unrolled_at]

theorem V1_v1 (n : Fin 4096) (k : Fin 768) : V1 m c main_v1 (ix2 n k) = V1 m c main_v0 (ix2 n k) := by
  have h : V1 m c main_v1 = truncf (F := Ideal) .bf16 (V1 m c main_v0) bitsLt_bf16_f32 := by
    show StableHlo.after hostOps0 (V0 m c) (Proc.devRef .tc main_v1) = truncf (F := Ideal) .bf16 (StableHlo.after hostOps0 (V0 m c) (Proc.devRef .tc main_v0)) bitsLt_bf16_f32
    after_results
  rw [h]
  rfl

theorem V1_v2 : V1 m c main_v2 = m ((c : Thread nD τ).loc main_arg2) := by
    show StableHlo.after hostOps0 (V0 m c) (Proc.devRef .tc main_v2) = _
    after_results
    rfl

theorem V1_v3 : V1 m c main_v3 = m ((c : Thread nD τ).loc main_arg4) := by
    show StableHlo.after hostOps0 (V0 m c) (Proc.devRef .tc main_v3) = _
    after_results
    rfl

variable (outs : Outs (F := Ideal))

theorem V3_v5 (e : Fin 8) (j : Fin 3072) : V3 m outs c main_v5 (ix3 e 0 j) = m ((c : Thread nD τ).loc main_arg3) (ix2 e j) := by
  have h : V3 m outs c main_v5 = shapeCast S8x1x3072 (V2 m outs c main_arg3) shapeCasts_S8x3072_S8x1x3072 := by
    show StableHlo.after hostOps1 (V2 m outs c) (Proc.devRef .tc main_v5) = _
    after_results
    rfl
  rw [h, V2_of m outs c main_arg3 (by decide), V1_of m c main_arg3 (by decide)]
  pointwise

theorem V3_v6 (e : Fin 8) (d : Fin 768) : V3 m outs c main_v6 (ix3 e 0 d) = m ((c : Thread nD τ).loc main_arg5) (ix2 e d) := by
  have h : V3 m outs c main_v6 = shapeCast S8x1x768 (V2 m outs c main_arg5) shapeCasts_S8x768_S8x1x768 := by
    show StableHlo.after hostOps1 (V2 m outs c) (Proc.devRef .tc main_v6) = _
    after_results
    rfl
  rw [h, V2_of m outs c main_arg5 (by decide), V1_of m c main_arg5 (by decide)]
  pointwise

theorem V5_v8 (b : Fin 2) (s : Fin 2048) (d : Fin 768) : V5 m outs c main_v8 (ix3 b s d) = outs 4 main_v7 c (ix2 (tokRow b s) d) := by
  have h : V5 m outs c main_v8 = shapeCast S2x2048x768 (V4 m outs c main_v7) shapeCasts_S4096x768_S2x2048x768 := by
    show StableHlo.after hostOps2 (V4 m outs c) (Proc.devRef .tc main_v8) = _
    after_results
    rfl
  rw [h, show V4 m outs c main_v7 = outs 4 main_v7 c from Function.update_self (β := fun b : DevRef τ sig => Buf (Elt Ideal) (c, b)) _ _ _, rolled_at]

end Host

section Blocks

variable (V : (c : Dev nD) → (b : Ref sig .tc) → Buf (Elt Ideal) ((c : Thread nD τ).loc b)) (c : Dev nD)

theorem gate0_at (t : Fin cfg0.N) (r : Fin 2048) (k : Fin 768) (n : Fin 4096) (hn : n.val = 2048 * t.val + r.val) :
    gateBlk V c 0 t (ix2 r k) = V c main_v0 (ix2 n k) := by
  have ht : ∀ t : Fin cfg0.N, (cfg0.win 0).index t 0 = t.val ∧ (cfg0.win 0).index t 1 = 0 := by decide +kernel
  unfold gateBlk
  rw [View.read_apply, cast_eq]
  refine congrArg (V c main_v0) (funext fun a => Fin.ext ?_)
  refine ((cfg0.win 0).rect_emb_val t (ix2 r k) a).trans ?_
  match a with
  | ⟨0, _⟩ =>
    show (cfg0.win 0).index t 0 * 2048 + r.val = n.val
    rw [(ht t).1, hn]; omega
  | ⟨1, _⟩ =>
    show (cfg0.win 0).index t 1 * 768 + k.val = k.val
    rw [(ht t).2]; omega

theorem gate1_at (t : Fin cfg0.N) : gateBlk V c 1 t = V c main_arg1 := by
  have ht : ∀ t : Fin cfg0.N, ∀ a, (cfg0.win 1).index t a = 0 := by decide +kernel
  unfold gateBlk
  funext y
  rw [View.read_apply, cast_eq]
  exact congrArg (V c main_arg1) (funext fun a => Fin.ext ((cfg0.win 1).rect_emb_val_of_index_zero t a (ht t a) y))

theorem exp0_at (t : Fin cfg1.N) : expBlk V c 0 t = V c main_v4 := by
  have ht : ∀ t : Fin cfg1.N, ∀ a, (cfg1.win 0).index t a = 0 := by decide +kernel
  unfold expBlk
  funext y
  rw [View.read_apply, cast_eq]
  exact congrArg (V c main_v4) (funext fun a => Fin.ext ((cfg1.win 0).rect_emb_val_of_index_zero t a (ht t a) y))

theorem exp1_at (t : Fin cfg1.N) : expBlk V c 1 t = V c main_v1 := by
  have ht : ∀ t : Fin cfg1.N, ∀ a, (cfg1.win 1).index t a = 0 := by decide +kernel
  unfold expBlk
  funext y
  rw [View.read_apply, cast_eq]
  exact congrArg (V c main_v1) (funext fun a => Fin.ext ((cfg1.win 1).rect_emb_val_of_index_zero t a (ht t a) y))

/-- The expert whose grid point is `t`. -/
def ofPoint (t : Fin cfg1.N) : Fin 8 := ⟨t.val, t.isLt⟩

theorem exp2_at (t : Fin cfg1.N) (j : Fin 3072) (k : Fin 768) : expBlk V c 2 t (ix3 0 j k) = V c main_v2 (ix3 (ofPoint t) j k) := by
  have ht : ∀ t : Fin cfg1.N, (cfg1.win 2).index t 0 = t.val ∧ (cfg1.win 2).index t 1 = 0 ∧ (cfg1.win 2).index t 2 = 0 := by decide +kernel
  unfold expBlk
  rw [View.read_apply, cast_eq]
  refine congrArg (V c main_v2) (funext fun a => Fin.ext ?_)
  refine ((cfg1.win 2).rect_emb_val t (ix3 0 j k) a).trans ?_
  match a with
  | ⟨0, _⟩ =>
    show (cfg1.win 2).index t 0 * 1 + 0 = t.val
    rw [(ht t).1]; omega
  | ⟨1, _⟩ =>
    show (cfg1.win 2).index t 1 * 3072 + j.val = j.val
    rw [(ht t).2.1]; omega
  | ⟨2, _⟩ =>
    show (cfg1.win 2).index t 2 * 768 + k.val = k.val
    rw [(ht t).2.2]; omega

theorem exp3_at (t : Fin cfg1.N) (d : Fin 768) (j : Fin 3072) : expBlk V c 3 t (ix3 0 d j) = V c main_v3 (ix3 (ofPoint t) d j) := by
  have ht : ∀ t : Fin cfg1.N, (cfg1.win 3).index t 0 = t.val ∧ (cfg1.win 3).index t 1 = 0 ∧ (cfg1.win 3).index t 2 = 0 := by decide +kernel
  unfold expBlk
  rw [View.read_apply, cast_eq]
  refine congrArg (V c main_v3) (funext fun a => Fin.ext ?_)
  refine ((cfg1.win 3).rect_emb_val t (ix3 0 d j) a).trans ?_
  match a with
  | ⟨0, _⟩ =>
    show (cfg1.win 3).index t 0 * 1 + 0 = t.val
    rw [(ht t).1]; omega
  | ⟨1, _⟩ =>
    show (cfg1.win 3).index t 1 * 768 + d.val = d.val
    rw [(ht t).2.1]; omega
  | ⟨2, _⟩ =>
    show (cfg1.win 3).index t 2 * 3072 + j.val = j.val
    rw [(ht t).2.2]; omega

theorem exp4_at (t : Fin cfg1.N) (j : Fin 3072) : expBlk V c 4 t (ix3 0 0 j) = V c main_v5 (ix3 (ofPoint t) 0 j) := by
  have ht : ∀ t : Fin cfg1.N, (cfg1.win 4).index t 0 = t.val ∧ (cfg1.win 4).index t 1 = 0 ∧ (cfg1.win 4).index t 2 = 0 := by decide +kernel
  unfold expBlk
  rw [View.read_apply, cast_eq]
  refine congrArg (V c main_v5) (funext fun a => Fin.ext ?_)
  refine ((cfg1.win 4).rect_emb_val t (ix3 0 0 j) a).trans ?_
  match a with
  | ⟨0, _⟩ =>
    show (cfg1.win 4).index t 0 * 1 + 0 = t.val
    rw [(ht t).1]; omega
  | ⟨1, _⟩ =>
    show (cfg1.win 4).index t 1 * 1 + 0 = 0
    rw [(ht t).2.1]
  | ⟨2, _⟩ =>
    show (cfg1.win 4).index t 2 * 3072 + j.val = j.val
    rw [(ht t).2.2]; omega

theorem exp5_at (t : Fin cfg1.N) (d : Fin 768) : expBlk V c 5 t (ix3 0 0 d) = V c main_v6 (ix3 (ofPoint t) 0 d) := by
  have ht : ∀ t : Fin cfg1.N, (cfg1.win 5).index t 0 = t.val ∧ (cfg1.win 5).index t 1 = 0 ∧ (cfg1.win 5).index t 2 = 0 := by decide +kernel
  unfold expBlk
  rw [View.read_apply, cast_eq]
  refine congrArg (V c main_v6) (funext fun a => Fin.ext ?_)
  refine ((cfg1.win 5).rect_emb_val t (ix3 0 0 d) a).trans ?_
  match a with
  | ⟨0, _⟩ =>
    show (cfg1.win 5).index t 0 * 1 + 0 = t.val
    rw [(ht t).1]; omega
  | ⟨1, _⟩ =>
    show (cfg1.win 5).index t 1 * 1 + 0 = 0
    rw [(ht t).2.1]
  | ⟨2, _⟩ =>
    show (cfg1.win 5).index t 2 * 768 + d.val = d.val
    rw [(ht t).2.2]; omega

end Blocks

end Cert.KernelIdeal.Moe

end
-- ==== Proof.KernelIdeal.Result.lean ====
/-
  The kernel's result read entry by entry, from its six arguments: a token's row is the sum of its two best experts' outputs,
  weighted by the softmax of the two scores.
-/
module

public import proofs.«01_k».proof.Proof.KernelIdeal.Arrays

@[expose] public section

noncomputable section

namespace Cert.KernelIdeal.Moe

open Cert.KernelIdeal Cert.KernelIdeal.Gen Cert.Maths
open Idealize.ShloMosaic Idealize.ShloMosaic.TcCoe
open Idealize.ShloMosaic.Pipeline (Dat Cfg Window)

section Calls

variable (V : (c : Dev nD) → (b : Ref sig .tc) → Buf (Elt Ideal) ((c : Thread nD τ).loc b)) (c : Dev nD)

/-! ## The routing call's output -/

/-- The routing call's grid point that writes row `n`, -/
def pointOf (n : Fin 4096) : Fin cfg0.N := ⟨n.val / 2048, by have := n.isLt; show n.val / 2048 < 2; omega⟩
/-- and the row's place in that point's block. -/
def placeOf (n : Fin 4096) : Fin 2048 := ⟨n.val % 2048, Nat.mod_lt _ (by decide)⟩

/-- The whole table: each row from the block that holds it. -/
def table : Buf (Elt Ideal) ((c : Thread nD τ).loc main_v4) := fun i =>
  gateOf (F := Ideal) (gateBlk V c 0 (pointOf (i 0))) (gateBlk V c 1 (pointOf (i 0))) (ix2 (placeOf (i 0)) (i 1))

/-- Where an entry of a point's block of the table lies. -/
theorem table_emb (t : Fin cfg0.N) (y : S2048x8.Idx) :
    ((((cfg0.win 2).blk t).view.emb y 0).val = t.val * 2048 + (y 0).val) ∧ (((cfg0.win 2).blk t).view.emb y 1).val = (y 1).val := by
  have ht : ∀ t : Fin cfg0.N, (cfg0.win 2).index t 0 = t.val ∧ (cfg0.win 2).index t 1 = 0 := by decide +kernel
  refine ⟨((cfg0.win 2).rect_emb_val t y 0).trans ?_, ((cfg0.win 2).rect_emb_val t y 1).trans ?_⟩
  · show (cfg0.win 2).index t 0 * 2048 + (y 0).val = _
    rw [(ht t).1]
  · show (cfg0.win 2).index t 1 * 8 + (y 1).val = _
    rw [(ht t).2]; omega

/-- What a point writes back is its block of the table. -/
theorem gate_flushed (t : Fin cfg0.N) : (gateDat V c).flushed 2 t = ((cfg0.win 2).blk t).view.read (Elt Ideal) (table V c) := by
  funext y
  rw [View.read_apply, cast_eq]
  show (gateDat V c).after 2 t y = table V c _
  rw [gateDat_after2]
  obtain ⟨h0, h1⟩ := table_emb t y
  have hy : (y 0).val < 2048 := (y 0).isLt
  have hp : pointOf (((cfg0.win 2).blk t).view.emb y 0) = t := Fin.ext (by
    show (((cfg0.win 2).blk t).view.emb y 0).val / 2048 = t.val
    rw [h0]; omega)
  unfold table
  rw [hp]
  refine congrArg (gateOf (F := Ideal) (gateBlk V c 0 t) (gateBlk V c 1 t)) (funext fun a => Fin.ext ?_)
  match a with
  | ⟨0, _⟩ =>
    show (y 0).val = (((cfg0.win 2).blk t).view.emb y 0).val % 2048
    rw [h0]; omega
  | ⟨1, _⟩ => exact h1.symm

theorem gate_array (n : Fin 4096) (e : Fin 8) : (gateDat V c).arrAt 2 cfg0.N (ix2 n e) = table V c (ix2 n e) := by
  have he : ix2 n e = ((cfg0.win 2).blk (pointOf n)).view.emb (ix2 (placeOf n) e) := by
    obtain ⟨h0, h1⟩ := table_emb (pointOf n) (ix2 (placeOf n) e)
    refine funext fun a => Fin.ext ?_
    match a with
    | ⟨0, _⟩ =>
      refine Eq.trans ?_ h0.symm
      show n.val = n.val / 2048 * 2048 + n.val % 2048
      omega
    | ⟨1, _⟩ => exact h1.symm
  exact (gateDat V c).arrAt_apply_of_mem 2 (table V c) (fun t _ => gate_flushed V c t) cfg0.N (pointOf n) _ (pointOf n).isLt
    (flush0_2 _) (he ▸ View.emb_mem_set _ _)

/-- Row `n` of the routing table holds the weights that the token's two best experts give. -/
theorem table_at (n : Fin 4096) (l : Fin 8 → EReal) (hl : l = scores (fun k => V c main_v0 (ix2 n k)) (fun e k => V c main_arg1 (ix2 e k)))
    (hb : ∀ e, l e ≠ ⊥) : ∃ a b, TopTwo l a b ∧ ∀ e, (gateDat V c).arrAt 2 cfg0.N (ix2 n e) = weight l a b e := by
  have h : rowScores (gateBlk V c 0 (pointOf n)) (gateBlk V c 1 (pointOf n)) (placeOf n) = l := by
    rw [hl]
    unfold rowScores
    congr 1
    · funext k
      refine gate0_at V c (pointOf n) (placeOf n) k n ?_
      show n.val = 2048 * (n.val / 2048) + n.val % 2048
      omega
    · rw [gate1_at]
  obtain ⟨a, b, hT, hw⟩ := gateOf_at (gateBlk V c 0 (pointOf n)) (gateBlk V c 1 (pointOf n)) (placeOf n) (h ▸ hb)
  rw [h] at hT hw
  exact ⟨a, b, hT, fun e => (gate_array V c n e).trans (hw e)⟩

/-! ## The expert call's output -/

/-- The weight of expert `e` for token row `n`, -/
def weightAt (n : Fin 4096) (e : Fin 8) : EReal := V c main_v4 (ix2 n e)

/-- and the expert's output for it. -/
def expertAt (n : Fin 4096) (d : Fin 768) (e : Fin 8) : EReal :=
  expert (fun k => V c main_v1 (ix2 n k)) (fun j k => V c main_v2 (ix3 e j k)) (fun j => V c main_v5 (ix3 e 0 j))
    (fun d j => V c main_v3 (ix3 e d j)) (fun d => V c main_v6 (ix3 e 0 d)) d

theorem operands_out (t : Fin cfg1.N) (n : Fin 4096) (d : Fin 768) : (expOperands V c t).out n d = expertAt V c n d (ofPoint t) := by
  unfold Operands.out expertAt expOperands
  simp only [exp1_at, exp2_at, exp3_at, exp4_at, exp5_at]

/-- The output after the first experts holds their weighted outputs' sum. -/
theorem accum_at (n : Fin 4096) (d : Fin 768) : ∀ k ≤ 8,
    accum V c k (ix2 n d) = ∑ e : Fin 8 with e.val < k, weightAt V c n e * expertAt V c n d e
  | 0, _ => by
    rw [Finset.filter_false_of_mem (by simp), Finset.sum_empty]
    show Ideal.ofBits .f32 0x00000000#32 = 0
    simp [Ideal.ofBits, Ideal.ieee]
  | k + 1, hk => by
    have ht : k < cfg1.N := hk
    refine (congrFun (accum_succ V c ⟨k, ht⟩) (ix2 n d)).trans ?_
    rw [coord1 ⟨k, ht⟩]
    refine ((expOperands V c ⟨k, ht⟩).walk_at ⟨k, hk⟩ _ n d).trans ?_
    have hs : (Finset.univ.filter fun e : Fin 8 => e.val < k + 1) = insert ⟨k, hk⟩ (Finset.univ.filter fun e : Fin 8 => e.val < k) := by
      ext e
      simp only [Finset.mem_filter, Finset.mem_univ, true_and, Finset.mem_insert, Fin.ext_iff]
      omega
    rw [hs, Finset.sum_insert (by simp), add_comm, operands_out]
    congr 1
    · exact congrArg (· * expertAt V c n d ⟨k, hk⟩) (congrFun (exp0_at V c ⟨k, ht⟩) (ix2 n ⟨k, hk⟩))
    · rw [← accum_at n d k (by omega)]
      split
      · next h =>
        have : k = 0 := h
        subst this
        show 0 = Ideal.ofBits .f32 0x00000000#32
        simp [Ideal.ofBits, Ideal.ieee]
      · rfl

/-- The call's last grid point. -/
def lastPoint : Fin cfg1.N := ⟨7, by decide⟩

/-- What the call leaves. -/
theorem exp_array : (expDat V c).arrAt 6 cfg1.N = accum V c 8 := by
  have ht : ∀ t : Fin cfg1.N, ∀ a, (cfg1.win 6).index t a = 0 := by decide +kernel
  have he : ∀ (t : Fin cfg1.N) (y : S4096x768.Idx), ((cfg1.win 6).blk t).view.emb y = y := fun t y =>
    funext fun a => Fin.ext ((cfg1.win 6).rect_emb_val_of_index_zero t a (ht t a) y)
  refine (expDat V c).arrAt_eq_of_cover 6 (accum V c 8) (fun t hf => ?_) fun i => ?_
  · funext y
    rw [View.read_apply, cast_eq]
    have h7 : t.val + 1 = 8 := by
      have := (flush1_6 t).mp hf
      have : t.val < 8 := t.isLt
      omega
    refine Eq.trans (b := accum V c (t.val + 1) y) ?_ ?_
    · show (expDat V c).after 6 t y = _
      rw [expDat_after6]
    · rw [h7]
      exact congrArg (accum V c 8) (he t y).symm
  · have h := View.emb_mem_set ((cfg1.win 6).blk lastPoint).view (i : S4096x768.Idx)
    rw [he] at h
    exact ⟨lastPoint, (flush1_6 lastPoint).mpr (by decide), h⟩

end Calls

/-! ## The result -/

variable (m : (ℓ : Loc nD τ sig) → Buf (Elt Ideal) ℓ) (c : Dev nD)

/-- The scores of a token, from the arguments, -/
def tokScores (b : Fin 2) (s : Fin 2048) : Fin 8 → EReal :=
  scores (fun k => m ((c : Thread nD τ).loc main_arg0) (ix3 b s k)) (fun e k => m ((c : Thread nD τ).loc main_arg1) (ix2 e k))

/-- and what each expert makes of it. -/
def tokExpert (b : Fin 2) (s : Fin 2048) (d : Fin 768) (e : Fin 8) : EReal :=
  expert (fun k => m ((c : Thread nD τ).loc main_arg0) (ix3 b s k)) (fun j k => m ((c : Thread nD τ).loc main_arg2) (ix3 e j k))
    (fun j => m ((c : Thread nD τ).loc main_arg3) (ix2 e j)) (fun d j => m ((c : Thread nD τ).loc main_arg4) (ix3 e d j))
    (fun d => m ((c : Thread nD τ).loc main_arg5) (ix2 e d)) d

/-- The expert call reads the table that the routing call left, -/
theorem weightAt_eq (n : Fin 4096) (e : Fin 8) :
    weightAt (atRefs (V3 m (left m))) c n e = (gateDat (atRefs (V1 m)) c).arrAt 2 cfg0.N (ix2 n e) := by
  have h : V3 m (left m) c main_v4 = gateLeft m c := by
    rw [V3_of m (left m) c main_v4 (by decide)]
    exact (Function.update_self (β := fun b : DevRef τ sig => Buf (Elt Ideal) (c, b)) _ _ _).trans (left_gate m c)
  exact congrFun h _

/-- and the experts' matrices and the tokens as launched. -/
theorem expertAt_eq (b : Fin 2) (s : Fin 2048) (d : Fin 768) (e : Fin 8) :
    expertAt (atRefs (V3 m (left m))) c (tokRow b s) d e = tokExpert m c b s d e := by
  have h1 : V3 m (left m) c main_v1 = V1 m c main_v1 := (V3_of m _ c main_v1 (by decide)).trans (V2_of m _ c main_v1 (by decide))
  have h2 : V3 m (left m) c main_v2 = m ((c : Thread nD τ).loc main_arg2) :=
    (V3_of m _ c main_v2 (by decide)).trans <| (V2_of m _ c main_v2 (by decide)).trans (V1_v2 m c)
  have h3 : V3 m (left m) c main_v3 = m ((c : Thread nD τ).loc main_arg4) :=
    (V3_of m _ c main_v3 (by decide)).trans <| (V2_of m _ c main_v3 (by decide)).trans (V1_v3 m c)
  exact expert_congr (fun k => (congrFun h1 _).trans ((V1_v1 m c _ k).trans (V1_v0 m c b s k))) (fun j k => congrFun h2 _)
    (fun j => V3_v5 m c (left m) e j) (fun d j => congrFun h3 _) (fun d => V3_v6 m c (left m) e d) d

theorem rowScores_eq (b : Fin 2) (s : Fin 2048) :
    tokScores m c b s = scores (fun k => atRefs (V1 m) c main_v0 (ix2 (tokRow b s) k)) (fun e k => atRefs (V1 m) c main_arg1 (ix2 e k)) := by
  unfold tokScores
  refine congrArg₂ scores ?_ ?_
  · exact funext fun k => (V1_v0 m c b s k).symm
  · exact funext fun e => funext fun k => (congrFun (V1_of m c main_arg1 (by decide)) _).symm

/-- The result's entry is the experts' weighted sum. -/
theorem result_sum (b : Fin 2) (s : Fin 2048) (d : Fin 768) : (V5 m (left m) c main_v8 (ix3 b s d) : EReal)
    = ∑ e, weightAt (atRefs (V3 m (left m))) c (tokRow b s) e * expertAt (atRefs (V3 m (left m))) c (tokRow b s) d e := by
  refine (V5_v8 m c (left m) b s d).trans ?_
  rw [left_exp, exp_array]
  refine (accum_at _ _ _ _ 8 le_rfl).trans ?_
  rw [Finset.filter_true_of_mem fun e _ => e.isLt]

/-- The kernel's result at a token and a column, when no score of the token is −∞. -/
theorem result_at (b : Fin 2) (s : Fin 2048) (d : Fin 768) (hb : ∀ e, tokScores m c b s e ≠ ⊥) :
    ∃ p q, TopTwo (tokScores m c b s) p q ∧
      (V5 m (left m) c main_v8 (ix3 b s d) : EReal) = mixed (tokScores m c b s) (tokExpert m c b s d) p q := by
  obtain ⟨p, q, hT, hw⟩ := table_at (atRefs (V1 m)) c (tokRow b s) (tokScores m c b s) (rowScores_eq m c b s) hb
  refine ⟨p, q, hT, ?_⟩
  have hs : ∑ e, weightAt (atRefs (V3 m (left m))) c (tokRow b s) e * expertAt (atRefs (V3 m (left m))) c (tokRow b s) d e
      = mixed (tokScores m c b s) (tokExpert m c b s d) p q := by
    rw [← sum_weight _ hT.ne]
    refine Finset.sum_congr rfl fun e _ => ?_
    rw [weightAt_eq, expertAt_eq]
    exact congrArg (· * _) (hw e)
  exact (result_sum m c b s d).trans hs

end Cert.KernelIdeal.Moe

end
-- ==== Proof.ReferenceIdeal.Choice.lean ====
/-
  The reference's routing read entry by entry: the two experts its sort puts first for a token, and the softmax of their scores.
-/
module

public import proofs.«01_k».proof.Proof.Gen.ReferenceIdeal.Read
public import proofs.«01_k».proof.Proof.Maths.Layer
public import Idealize.ShloMosaic.Lib.Pipeline.Value
public import Idealize.ShloMosaic.Lib.Pointwise

@[expose] public section

noncomputable section

namespace Cert.ReferenceIdeal.Moe

open Cert.ReferenceIdeal Cert.ReferenceIdeal.Gen Cert.ReferenceIdeal.Read Cert.Maths
open Idealize.ShloMosaic

theorem negInf_eq : Ideal.ofBits FTy.f32 4286578688#32 = ⊥ := by simp [Ideal.ofBits, Ideal.ieee]
theorem zero_eq : Ideal.ofBits FTy.f32 0#32 = 0 := by simp [Ideal.ofBits, Ideal.ieee]

variable (x0 : FVec Ideal S2x2048x768 .f32) (x1 : FVec Ideal S8x768 .f32) (b : Fin 2) (s : Fin 2048)

/-- The scores of a token. -/
def tokScores : Fin 8 → EReal := scores (fun k => x0 (ix3 b s k)) (fun e k => x1 (ix2 e k))

theorem v0_at (e : Fin 8) : val_main_v0 (F := Ideal) x0 x1 (ix3 b s e) = tokScores x0 x1 b s e := by
  pointwise [val_main_v0]
  rfl

/-- The expert that the sort of a row of scores puts at place `k`. -/
def placed (l : Fin 8 → EReal) (k : Fin 8) : Fin 8 := sortedFrom (fun i j => Ideal.cmpTotal .gt (l i) (l j) == 1#1) k

theorem placed_topTwo (l : Fin 8 → EReal) : TopTwo l (placed l 0) (placed l 1) := by
  refine topTwo_sortedFrom l (by decide) _ fun i j => ?_
  rw [beq_iff_eq]
  show BitVec.ofBool (decide (l i > l j)) = 1#1 ↔ l j < l i
  by_cases h : l j < l i
  · simp [h]
  · simp [h]

/-- A place among the first two as a place among all eight. -/
def wide (k : Fin 2) : Fin 8 := ⟨k.val, by omega⟩

/-- An index of the scores along their last axis. -/
theorem along_at (e k : Fin 8) : Shape.Idx.along (s := S2x2048x8) (ix3 b s e) 2 k = ix3 b s k := by
  funext a
  match a with
  | ⟨0, _⟩ => rfl
  | ⟨1, _⟩ => rfl
  | ⟨2, _⟩ => rfl

/-- The first two places of a row, cut from all eight. -/
theorem cut_at {α : Type} (y : S2x2048x8.Idx → α) (h) (k : Fin 2) : extractStridedSlice (s := S2x2048x8) S2x2048x2 (fun _ => 0) y h (ix3 b s k) = y (ix3 b s (wide k)) :=
  extractStridedSlice_apply _ _ _ _ _ fun a => by
    match a with
    | ⟨0, _⟩ => exact (Nat.zero_add _).symm
    | ⟨1, _⟩ => exact (Nat.zero_add _).symm
    | ⟨2, _⟩ => exact (Nat.zero_add _).symm

/-- The order in which the sort takes a row of scores. -/
theorem order_eq (e : Fin 8) :
    sortedFrom (fun i j : Fin 8 => FloatOps.cmpfTotal (F := Ideal) (φ := .f32) .gt (val_main_v0 (F := Ideal) x0 x1 (Shape.Idx.along (s := S2x2048x8) (ix3 b s e) 2 i)) (val_main_v0 (F := Ideal) x0 x1 (Shape.Idx.along (s := S2x2048x8) (ix3 b s e) 2 j)) == 1#1) e
      = placed (tokScores x0 x1 b s) e := by
  have h : ∀ k : Fin 8, val_main_v0 (F := Ideal) x0 x1 (Shape.Idx.along (s := S2x2048x8) (ix3 b s e) 2 k) = tokScores x0 x1 b s k := fun k => by
    rw [along_at, v0_at]
  simp only [h]
  rfl

/-- The best scores, -/
theorem values_at (k : Fin 2) : val_main_values (F := Ideal) x0 x1 (ix3 b s k) = tokScores x0 x1 b s (placed (tokScores x0 x1 b s) (wide k)) := by
  unfold val_main_values Host.topK
  dsimp only
  refine (cut_at b s _ _ k).trans ?_
  unfold Host.sort2
  rw [dif_pos (by decide)]
  refine (congrArg (val_main_v0 (F := Ideal) x0 x1) (along_at b s (wide k) _)).trans ?_
  exact (v0_at x0 x1 b s _).trans (congrArg (tokScores x0 x1 b s) (order_eq x0 x1 b s (wide k)))

/-- and the experts that reach them. -/
theorem indices_at (k : Fin 2) : val_main_indices (F := Ideal) x0 x1 (ix3 b s k) = BitVec.ofNat 32 (placed (tokScores x0 x1 b s) (wide k)).val := by
  unfold val_main_indices Host.topK
  dsimp only
  refine (cut_at b s _ _ k).trans ?_
  unfold Host.sort2
  rw [dif_pos (by decide)]
  exact congrArg (fun e : Fin 8 => BitVec.ofNat 32 e.val) (order_eq x0 x1 b s (wide k))

/-- The larger of two is what a maximum over both finds. -/
theorem max_two (f : Fin 2 → EReal) (h : f 1 ≤ f 0) : max ⊥ (Finset.fold max ⊥ f Finset.univ) = f 0 := by
  rw [bot_sup_eq]
  refine le_antisymm ((Finset.fold_max_le _).2 ⟨bot_le, fun k _ => ?_⟩) ((Finset.le_fold_max _).2 (.inr ⟨0, Finset.mem_univ _, le_rfl⟩))
  match k with
  | 0 => exact le_rfl
  | 1 => exact h

/-- A softmax over two values whose first is finite and the larger. -/
theorem softmax_two (f : Fin 2 → EReal) (h : f 1 ≤ f 0) (hb : f 0 ≠ ⊥) (ht : f 0 ≠ ⊤) (k : Fin 2) :
    Ideal.div (Ideal.exp (f k - max ⊥ (Finset.fold max ⊥ f Finset.univ))) (∑ i, Ideal.exp (f i - max ⊥ (Finset.fold max ⊥ f Finset.univ)))
      = Ideal.div (if k = 0 then 1 else Ideal.exp (f 1 - f 0)) (1 + Ideal.exp (f 1 - f 0)) := by
  have h1 : Ideal.exp (f 0 - f 0) = 1 := by
    lift f 0 to ℝ using ⟨ht, hb⟩ with r
    rw [← EReal.coe_sub, sub_self, Ideal.exp_coe, Real.exp_zero, EReal.coe_one]
  rw [max_two f h, Fin.sum_univ_two, h1]
  match k with
  | 0 => rw [h1, if_pos rfl]
  | 1 => rw [if_neg (by decide)]

/-- The weights of the two chosen experts. -/
theorem v11_at (ht : ∀ e, tokScores x0 x1 b s e ≠ ⊥ ∧ tokScores x0 x1 b s e ≠ ⊤) {p q : Fin 8} (h : TopTwo (tokScores x0 x1 b s) p q)
    (hp : placed (tokScores x0 x1 b s) 0 = p) (hq : placed (tokScores x0 x1 b s) 1 = q) (k : Fin 2) :
    (val_main_v11 (F := Ideal) x0 x1 (ix3 b s k) : EReal)
      = Ideal.div (if k = 0 then 1 else Ideal.exp (tokScores x0 x1 b s q - tokScores x0 x1 b s p)) (1 + Ideal.exp (tokScores x0 x1 b s q - tokScores x0 x1 b s p)) := by
  pointwise [val_main_v11, val_main_v10, val_main_v9, val_main_v8, val_main_v7, val_main_v6, val_main_v5, val_main_v4, val_main_v3, val_main_v2, val_main_v1, val_main_cst, val_main_cst_0, val_main_cst_1]
  simp only [negInf_eq, zero_eq]
  have h0 : (val_main_values (F := Ideal) x0 x1 (ix3 b s 0) : EReal) = tokScores x0 x1 b s p := hp ▸ values_at x0 x1 b s 0
  have h1 : (val_main_values (F := Ideal) x0 x1 (ix3 b s 1) : EReal) = tokScores x0 x1 b s q := hq ▸ values_at x0 x1 b s 1
  refine (softmax_two (fun k => val_main_values (F := Ideal) x0 x1 (ix3 b s k)) ?_ ?_ ?_ k).trans ?_
  · show (val_main_values (F := Ideal) x0 x1 (ix3 b s 1) : EReal) ≤ val_main_values (F := Ideal) x0 x1 (ix3 b s 0)
    rw [h0, h1]
    exact (h.first q h.ne).elim le_of_lt fun h => h.1.ge
  · exact h0 ▸ (ht p).1
  · exact h0 ▸ (ht p).2
  · rw [h0, h1]

end Cert.ReferenceIdeal.Moe

end
-- ==== Proof.ReferenceIdeal.Rows.lean ====
/-
  The reference's expert part read entry by entry: every expert applied to every token, and the rows it picks of them.
-/
module

public import proofs.«01_k».proof.Proof.ReferenceIdeal.Choice
public import Idealize.ShloMosaic.Lib.StableHlo.Predicate

@[expose] public section

noncomputable section

namespace Cert.ReferenceIdeal.Moe

open Cert.ReferenceIdeal Cert.ReferenceIdeal.Gen Cert.ReferenceIdeal.Read Cert.Maths
open Idealize.ShloMosaic

/-- The row of a token among all 4096. -/
def tokRow (b : Fin 2) (s : Fin 2048) : Fin 4096 := ⟨b.val * 2048 + s.val, by omega⟩

theorem tokRow_batch (b : Fin 2) (s : Fin 2048) (h : (tokRow b s).val / 2048 < 2) : (⟨(tokRow b s).val / 2048, h⟩ : Fin 2) = b :=
  Fin.ext (by show (b.val * 2048 + s.val) / 2048 = b.val; omega)

theorem tokRow_place (b : Fin 2) (s : Fin 2048) (h : (tokRow b s).val % 2048 < 2048) : (⟨(tokRow b s).val % 2048, h⟩ : Fin 2048) = s :=
  Fin.ext (by show (b.val * 2048 + s.val) % 2048 = s.val; omega)

/-- Rows of all tokens laid out by sequence, -/
theorem rolled_at {α : Type} (v : S4096x768.Idx → α) (h) (b : Fin 2) (s : Fin 2048) (d : Fin 768) :
    shapeCast S2x2048x768 v h (ix3 b s d) = v (ix2 (tokRow b s) d) := by
  pointwise []
  rfl

/-- and the reverse. -/
theorem unrolled_at {α : Type} (v : S2x2048x768.Idx → α) (h) (b : Fin 2) (s : Fin 2048) (d : Fin 768) :
    shapeCast S4096x768 v h (ix2 (tokRow b s) d) = v (ix3 b s d) := by
  refine (rolled_at (shapeCast S4096x768 v h) (by decide) b s d).symm.trans ?_
  rw [shapeCast_shapeCast]

variable (x0 : FVec Ideal S2x2048x768 .f32) (x1 : FVec Ideal S8x768 .f32) (x2 : FVec Ideal S8x3072x768 .f32) (x3 : FVec Ideal S8x3072 .f32)
  (x4 : FVec Ideal S8x768x3072 .f32) (x5 : FVec Ideal S8x768 .f32) (b : Fin 2) (s : Fin 2048)

/-- One entry of what expert `e` gives for a token. -/
def tokExpert (d : Fin 768) (e : Fin 8) : EReal :=
  expert (fun k => x0 (ix3 b s k)) (fun j k => x2 (ix3 e j k)) (fun j => x3 (ix2 e j)) (fun d j => x4 (ix3 e d j)) (fun d => x5 (ix2 e d)) d

theorem v28_at (e : Fin 8) (d : Fin 768) : (val_main_v28 (F := Ideal) x0 x2 x3 x4 x5 (ix3 e (tokRow b s) d) : EReal) = tokExpert x0 x2 x3 x4 x5 b s d e := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_cst_2, val_main_cst_3]
  have hx : ∀ k, (val_main_v12 (F := Ideal) x0 (ix2 (tokRow b s) k) : EReal) = x0 (ix3 b s k) := fun k => by
    unfold val_main_v12
    exact unrolled_at x0 _ b s k
  simp only [hx]
  refine (congrArg (· + (x5 (ix2 e d) : EReal)) (Finset.sum_congr rfl fun j _ => congrArg (· * (x4 (ix3 e d j) : EReal)) (gelu_erfc _))).trans ?_
  unfold tokExpert expert
  simp only [mul_comm]

/-- A count that is not negative is its own place: nothing is added to it. -/
theorem counted (n : Nat) (h : n < 2 ^ 31) (a : BitVec 32) : Scalar.select (IntOp.cmpi .slt (BitVec.ofNat 32 n) 0#32) a (BitVec.ofNat 32 n) = BitVec.ofNat 32 n := by
  have hs : (BitVec.ofNat 32 n).slt 0#32 = false := by
    rw [BitVec.slt, StableHlo.Predicate.toInt_ofNat_small n h]
    exact decide_eq_false (by simp)
  show Scalar.select (BitVec.ofBool ((BitVec.ofNat 32 n).slt 0#32)) _ _ = _
  rw [hs]
  rfl

/-- The expert a pick names: at a place below eight no entry counts from the end. -/
theorem v44_at (k : Fin 2) : (val_main_v44 (F := Ideal) x0 x1 (ix3 k (tokRow b s) 0)) = BitVec.ofNat 32 (placed (tokScores x0 x1 b s) (wide k)).val := by
  pointwise [val_main_v44, val_main_v37, val_main_v36, val_main_v35, val_main_v34, val_main_v33, val_main_v30, val_main_v29, val_main_c, val_main_c_4]
  simp only [tokRow_batch, tokRow_place]
  rw [indices_at]
  exact counted _ (by omega) _

/-- The row a pick names. -/
theorem v45_at (k : Fin 2) (n : Fin 4096) : (val_main_v45 (F := Ideal) (ix3 k n 0)) = BitVec.ofNat 32 n.val := by
  pointwise [val_main_v45, val_main_v43, val_main_v42, val_main_v41, val_main_v40, val_main_v39, val_main_v38, val_main_v32, val_main_v31, val_main_c_5, val_main_c_6]
  exact counted _ (by omega) _

/-- How the picks are laid out: an expert and a row name one row of numbers. -/
abbrev picks := gather_S8x4096x768_S2x4096x2_S2x4096x768_2_01_n_n_01_2_11768

/-- Where a pick's expert and row stand among the indices. -/
theorem picks_siIdx (k : Fin 2) (n : Fin 4096) (d : Fin 768) (c : Fin 2) : picks.siIdx (ix3 k n d) c = ix3 k n c := by
  funext a
  match a with
  | ⟨0, _⟩ => rfl
  | ⟨1, _⟩ => rfl
  | ⟨2, _⟩ => rfl

/-- A picked row read at an index. -/
theorem gather_at {α : Type} (x : S8x4096x768.Idx → α) (i : IVec S2x4096x2 32) (k : Fin 2) (n : Fin 4096) (d : Fin 768) (p : Fin 8) (r : Fin 4096)
    (hp : i (ix3 k n 0) = BitVec.ofNat 32 p.val) (hr : i (ix3 k n 1) = BitVec.ofNat 32 r.val) :
    Host.gather picks x i (ix3 k n d) = x (ix3 p r d) := by
  refine congrArg x (funext fun a => Fin.ext ?_)
  match a with
  | ⟨0, _⟩ =>
    show picks.start (ix3 k n d) i 0 + picks.batchCoord (ix3 k n d) 0 + picks.offCoord (ix3 k n d) 0 = p.val
    rw [picks.batchCoord_eq_zero _ _ (by decide), picks.offCoord_eq_zero _ _ (by decide)]
    unfold GatherDims.start
    rw [dif_pos (by decide)]
    show min (i (picks.siIdx (ix3 k n d) (0 : Fin 2))).toInt.toNat 7 + 0 + 0 = p.val
    rw [picks_siIdx, hp, StableHlo.Predicate.toInt_ofNat_small _ (by omega)]
    omega
  | ⟨1, _⟩ =>
    show picks.start (ix3 k n d) i 1 + picks.batchCoord (ix3 k n d) 1 + picks.offCoord (ix3 k n d) 1 = r.val
    rw [picks.batchCoord_eq_zero _ _ (by decide), picks.offCoord_eq_zero _ _ (by decide)]
    unfold GatherDims.start
    rw [dif_pos (by decide)]
    show min (i (picks.siIdx (ix3 k n d) (1 : Fin 2))).toInt.toNat 4095 + 0 + 0 = r.val
    rw [picks_siIdx, hr, StableHlo.Predicate.toInt_ofNat_small _ (by omega)]
    omega
  | ⟨2, _⟩ =>
    show picks.start (ix3 k n d) i 2 + picks.batchCoord (ix3 k n d) 2 + picks.offCoord (ix3 k n d) 2 = d.val
    rw [picks.batchCoord_eq_zero _ _ (by decide)]
    unfold GatherDims.start GatherDims.offCoord
    rw [dif_neg (by decide), dif_pos (by decide)]
    exact (Nat.zero_add _).trans rfl

/-- The two halves of a pick's indices. -/
theorem v46_at (k : Fin 2) (n : Fin 4096) :
    val_main_v46 (F := Ideal) x0 x1 (ix3 k n 0) = val_main_v44 (F := Ideal) x0 x1 (ix3 k n 0)
      ∧ val_main_v46 (F := Ideal) x0 x1 (ix3 k n 1) = val_main_v45 (F := Ideal) (ix3 k n 0) := by
  constructor
  · refine concatenate_pair_apply_left (s₁ := S2x4096x1) (s₂ := S2x4096x1) (t := S2x4096x2) 2 _ _ _ _ rfl (ix3 k n 0) fun a => ?_
    match a with
    | ⟨0, _⟩ => rfl
    | ⟨1, _⟩ => rfl
    | ⟨2, _⟩ => rfl
  · refine concatenate_pair_apply_right (s₁ := S2x4096x1) (s₂ := S2x4096x1) (t := S2x4096x2) 2 _ _ _ _ rfl rfl (ix3 k n 0) (fun a h => ?_) rfl
    match a with
    | ⟨0, _⟩ => rfl
    | ⟨1, _⟩ => rfl
    | ⟨2, _⟩ => exact absurd rfl h

/-- Pick `k` of a token: what its `k`-th best expert gives for it. -/
theorem v47_at (k : Fin 2) (d : Fin 768) :
    (val_main_v47 (F := Ideal) x0 x1 x2 x3 x4 x5 (ix3 k (tokRow b s) d) : EReal) = tokExpert x0 x2 x3 x4 x5 b s d (placed (tokScores x0 x1 b s) (wide k)) :=
  (gather_at (val_main_v28 (F := Ideal) x0 x2 x3 x4 x5) (val_main_v46 (F := Ideal) x0 x1) k (tokRow b s) d _ (tokRow b s)
    ((v46_at x0 x1 k _).1.trans (v44_at x0 x1 b s k)) ((v46_at x0 x1 k _).2.trans (v45_at k _))).trans (v28_at x0 x2 x3 x4 x5 b s _ d)

/-- The result at an index: the two best experts' outputs mixed by the softmax of their scores. -/
theorem v53_at (d : Fin 768) (ht : ∀ e, tokScores x0 x1 b s e ≠ ⊥ ∧ tokScores x0 x1 b s e ≠ ⊤) :
    ∃ p q, TopTwo (tokScores x0 x1 b s) p q
      ∧ (val_main_v53 (F := Ideal) x0 x1 x2 x3 x4 x5 (ix3 b s d) : EReal) = mixed (tokScores x0 x1 b s) (tokExpert x0 x2 x3 x4 x5 b s d) p q := by
  refine ⟨_, _, placed_topTwo (tokScores x0 x1 b s), ?_⟩
  unfold val_main_v53
  refine (rolled_at _ _ b s d).trans ?_
  pointwise [val_main_v52, val_main_v51, val_main_v50, val_main_v49, val_main_v48, val_main_cst_7]
  simp only [tokRow_batch, tokRow_place]
  have hw := v11_at x0 x1 b s ht (placed_topTwo (tokScores x0 x1 b s)) rfl rfl
  have hy := fun k => v47_at x0 x1 x2 x3 x4 x5 b s k d
  refine (Finset.sum_congr rfl fun k _ => congrArg₂ (HMul.hMul (α := EReal) (β := EReal)) (hy k) (hw k)).trans ?_
  rw [Fin.sum_univ_two, if_pos rfl, if_neg (by decide)]
  rfl

end Cert.ReferenceIdeal.Moe

end
-- ==== Proof.Equal.lean ====
/-
  The kernel and the reference leave equal results: both mix the same two experts' outputs by the same softmax.
-/
module

public import proofs.«01_k».proof.Proof.Frames
public import proofs.«01_k».proof.Proof.Finite
public import proofs.«01_k».proof.Proof.KernelIdeal.Result
public import proofs.«01_k».proof.Proof.ReferenceIdeal.Rows

@[expose] public section

noncomputable section

namespace Cert.Proof

open Idealize.ShloMosaic Idealize.ShloMosaic.TcCoe Idealize.SL.Sem Cert.Maths

/-- An index of a rank-3 array by its three coordinates. -/
theorem idx_eq {a b c : ℕ} (i : (⟨3, ![a, b, c]⟩ : Shape).Idx) : i = ix3 (i 0) (i 1) (i 2) := by
  funext k
  match k with
  | ⟨0, _⟩ => rfl
  | ⟨1, _⟩ => rfl
  | ⟨2, _⟩ => rfl

/-- Where both read the same six inputs, the first two of finite numbers, the kernel's result is the reference's. -/
theorem results_eq (m : (ℓ : Loc Cert.KernelIdeal.nD Cert.KernelIdeal.τ Cert.KernelIdeal.sig) → Buf (Elt Ideal) ℓ) (c : Dev Cert.KernelIdeal.nD)
    (h : Cert.Pre_KernelIdeal_finite (hPre_finite := pre_facts) m) :
    (Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      = Cert.KernelIdeal.Gen.V5 m (Cert.KernelIdeal.Moe.left m) c Cert.KernelIdeal.main_v8 := by
  haveI := pre_facts
  obtain ⟨hx, hg⟩ := inputs_finite _ _ _ _ _ _ (h c)
  funext i
  rw [idx_eq i]
  generalize i 0 = b
  generalize i 1 = s
  generalize i 2 = d
  have hf : ∀ e, Finite (Cert.KernelIdeal.Moe.tokScores m c b s e) := scores_finite (fun k => hx _) (fun e k => hg _)
  obtain ⟨p, q, hT, hv⟩ := Cert.KernelIdeal.Moe.result_at m c b s d fun e => (hf e).1
  obtain ⟨p', q', hT', hv'⟩ := Cert.ReferenceIdeal.Moe.v53_at
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) b s d hf
  obtain ⟨rfl, rfl⟩ := TopTwo.unique hT hT'
  exact hv'.trans hv.symm

/-- The value claim: the same result from both programs. -/
theorem algebraic : algebraic_KernelIdeal_ReferenceIdeal_pre_finite (hKernelIdeal := Cert.KernelIdeal.Gen.facts) (hReferenceIdeal := Cert.ReferenceIdeal.Gen.facts) (hPre_finite := pre_facts) :=
  fun m g m' g' h e => ⟨fun c => Cert.KernelIdeal.Gen.V5 m (Cert.KernelIdeal.Moe.left m) c Cert.KernelIdeal.main_v8,
    (θ_run _ _ _).mono (fun _ h => h.1) (Cert.KernelIdeal.Moe.run m g),
    (θ_run _ _ _).mono (fun r hr c => ⟨(hr c).1.trans ((Cert.ReferenceIdeal.Read.val_main_v53_eq m' c).trans (by
      obtain ⟨e0, e1, e2, e3, e4, e5⟩ := e c
      rw [e0, e1, e2, e3, e4, e5]
      exact results_eq m c h)), (hr c).2⟩) (Cert.ReferenceIdeal.Value.run m' g')⟩

end Cert.Proof

end
-- ==== Proof.lean ====
/-
  The certificate: the mixture-of-experts kernel, run over any floats and over the extended reals, ends with its arguments as
  launched and its semaphores at zero, and over the extended reals it computes what the dense reference computes.
-/
module

public import proofs.«01_k».proof.Defs
public import proofs.«01_k».proof.Proof.Frames
public import proofs.«01_k».proof.Proof.Equal

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, pre_facts,
    kernel_frame, kernelIdeal_frame, fun m g _ => kernelIdeal_frame m g trivial,
    reference_frame, fun m g _ => reference_frame m g trivial, trivial, algebraic⟩

end Cert.Proof

end
